-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Retin (m : (ℓ : Loc Cert.Retin.nD Cert.Retin.τ Cert.Retin.sig) → Buf (Elt Bits) ℓ) : Prop :=
  True

def Pre_RetinIdeal (m : (ℓ : Loc Cert.RetinIdeal.nD Cert.RetinIdeal.τ Cert.RetinIdeal.sig) → Buf (Elt Ideal) ℓ) : Prop :=
  True

def Pre_RetinReferenceIdeal (m : (ℓ : Loc Cert.RetinReferenceIdeal.nD Cert.RetinReferenceIdeal.τ Cert.RetinReferenceIdeal.sig) → Buf (Elt Ideal) ℓ) : Prop :=
  True

def Pre_Retinc (m : (ℓ : Loc Cert.Retinc.nD Cert.Retinc.τ Cert.Retinc.sig) → Buf (Elt Bits) ℓ) : Prop :=
  True

def Pre_RetincIdeal (m : (ℓ : Loc Cert.RetincIdeal.nD Cert.RetincIdeal.τ Cert.RetincIdeal.sig) → Buf (Elt Ideal) ℓ) : Prop :=
  True

def Pre_RetincReferenceIdeal (m : (ℓ : Loc Cert.RetincReferenceIdeal.nD Cert.RetincReferenceIdeal.τ Cert.RetincReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def quiescent_Retin [hRetin : Cert.Retin.Facts] : Prop :=
  ∀ (m : (ℓ : Loc Cert.Retin.nD Cert.Retin.τ Cert.Retin.sig) → Buf (Elt Bits) ℓ) (g : Dev Cert.Retin.nD → PrngReg), Pre_Retin m →
    θ_run (Cert.Retin.defs (F := Bits)) (onTc (τ := Cert.Retin.τ) (Cert.Retin.main (F := Bits))) ⟨m, fun _ => 0, g⟩ (fun r => (∀ c : Dev Cert.Retin.nD,
      r.2.mem ((c.tc : Thread Cert.Retin.nD Cert.Retin.τ).loc Cert.Retin.main_arg0) = m ((c.tc : Thread Cert.Retin.nD Cert.Retin.τ).loc Cert.Retin.main_arg0)
      ∧ r.2.mem ((c.tc : Thread Cert.Retin.nD Cert.Retin.τ).loc Cert.Retin.main_arg1) = m ((c.tc : Thread Cert.Retin.nD Cert.Retin.τ).loc Cert.Retin.main_arg1))
      ∧ r.2.sem = fun _ => 0)

def quiescent_RetinIdeal [hRetinIdeal : Cert.RetinIdeal.Facts] : Prop :=
  ∀ (m : (ℓ : Loc Cert.RetinIdeal.nD Cert.RetinIdeal.τ Cert.RetinIdeal.sig) → Buf (Elt Ideal) ℓ) (g : Dev Cert.RetinIdeal.nD → PrngReg), Pre_RetinIdeal m →
    θ_run (Cert.RetinIdeal.defs (F := Ideal)) (onTc (τ := Cert.RetinIdeal.τ) (Cert.RetinIdeal.main (F := Ideal))) ⟨m, fun _ => 0, g⟩ (fun r => (∀ c : Dev Cert.RetinIdeal.nD,
      r.2.mem ((c.tc : Thread Cert.RetinIdeal.nD Cert.RetinIdeal.τ).loc Cert.RetinIdeal.main_arg0) = m ((c.tc : Thread Cert.RetinIdeal.nD Cert.RetinIdeal.τ).loc Cert.RetinIdeal.main_arg0)
      ∧ r.2.mem ((c.tc : Thread Cert.RetinIdeal.nD Cert.RetinIdeal.τ).loc Cert.RetinIdeal.main_arg1) = m ((c.tc : Thread Cert.RetinIdeal.nD Cert.RetinIdeal.τ).loc Cert.RetinIdeal.main_arg1))
      ∧ r.2.sem = fun _ => 0)

def quiescent_RetinReferenceIdeal [hRetinReferenceIdeal : Cert.RetinReferenceIdeal.Facts] : Prop :=
  ∀ (m : (ℓ : Loc Cert.RetinReferenceIdeal.nD Cert.RetinReferenceIdeal.τ Cert.RetinReferenceIdeal.sig) → Buf (Elt Ideal) ℓ) (g : Dev Cert.RetinReferenceIdeal.nD → PrngReg), Pre_RetinReferenceIdeal m →
    θ_run (Cert.RetinReferenceIdeal.defs (F := Ideal)) (onTc (τ := Cert.RetinReferenceIdeal.τ) (Cert.RetinReferenceIdeal.main (F := Ideal))) ⟨m, fun _ => 0, g⟩ (fun r => (∀ c : Dev Cert.RetinReferenceIdeal.nD,
      r.2.mem ((c.tc : Thread Cert.RetinReferenceIdeal.nD Cert.RetinReferenceIdeal.τ).loc Cert.RetinReferenceIdeal.main_arg0) = m ((c.tc : Thread Cert.RetinReferenceIdeal.nD Cert.RetinReferenceIdeal.τ).loc Cert.RetinReferenceIdeal.main_arg0)
      ∧ r.2.mem ((c.tc : Thread Cert.RetinReferenceIdeal.nD Cert.RetinReferenceIdeal.τ).loc Cert.RetinReferenceIdeal.main_arg1) = m ((c.tc : Thread Cert.RetinReferenceIdeal.nD Cert.RetinReferenceIdeal.τ).loc Cert.RetinReferenceIdeal.main_arg1))
      ∧ r.2.sem = fun _ => 0)

def quiescent_Retinc [hRetinc : Cert.Retinc.Facts] : Prop :=
  ∀ (m : (ℓ : Loc Cert.Retinc.nD Cert.Retinc.τ Cert.Retinc.sig) → Buf (Elt Bits) ℓ) (g : Dev Cert.Retinc.nD → PrngReg), Pre_Retinc m →
    θ_run (Cert.Retinc.defs (F := Bits)) (onTc (τ := Cert.Retinc.τ) (Cert.Retinc.main (F := Bits))) ⟨m, fun _ => 0, g⟩ (fun r => (∀ c : Dev Cert.Retinc.nD,
      r.2.mem ((c.tc : Thread Cert.Retinc.nD Cert.Retinc.τ).loc Cert.Retinc.main_arg0) = m ((c.tc : Thread Cert.Retinc.nD Cert.Retinc.τ).loc Cert.Retinc.main_arg0)
      ∧ r.2.mem ((c.tc : Thread Cert.Retinc.nD Cert.Retinc.τ).loc Cert.Retinc.main_arg1) = m ((c.tc : Thread Cert.Retinc.nD Cert.Retinc.τ).loc Cert.Retinc.main_arg1))
      ∧ r.2.sem = fun _ => 0)

def quiescent_RetincIdeal [hRetincIdeal : Cert.RetincIdeal.Facts] : Prop :=
  ∀ (m : (ℓ : Loc Cert.RetincIdeal.nD Cert.RetincIdeal.τ Cert.RetincIdeal.sig) → Buf (Elt Ideal) ℓ) (g : Dev Cert.RetincIdeal.nD → PrngReg), Pre_RetincIdeal m →
    θ_run (Cert.RetincIdeal.defs (F := Ideal)) (onTc (τ := Cert.RetincIdeal.τ) (Cert.RetincIdeal.main (F := Ideal))) ⟨m, fun _ => 0, g⟩ (fun r => (∀ c : Dev Cert.RetincIdeal.nD,
      r.2.mem ((c.tc : Thread Cert.RetincIdeal.nD Cert.RetincIdeal.τ).loc Cert.RetincIdeal.main_arg0) = m ((c.tc : Thread Cert.RetincIdeal.nD Cert.RetincIdeal.τ).loc Cert.RetincIdeal.main_arg0)
      ∧ r.2.mem ((c.tc : Thread Cert.RetincIdeal.nD Cert.RetincIdeal.τ).loc Cert.RetincIdeal.main_arg1) = m ((c.tc : Thread Cert.RetincIdeal.nD Cert.RetincIdeal.τ).loc Cert.RetincIdeal.main_arg1))
      ∧ r.2.sem = fun _ => 0)

def quiescent_RetincReferenceIdeal [hRetincReferenceIdeal : Cert.RetincReferenceIdeal.Facts] : Prop :=
  ∀ (m : (ℓ : Loc Cert.RetincReferenceIdeal.nD Cert.RetincReferenceIdeal.τ Cert.RetincReferenceIdeal.sig) → Buf (Elt Ideal) ℓ) (g : Dev Cert.RetincReferenceIdeal.nD → PrngReg), Pre_RetincReferenceIdeal m →
    θ_run (Cert.RetincReferenceIdeal.defs (F := Ideal)) (onTc (τ := Cert.RetincReferenceIdeal.τ) (Cert.RetincReferenceIdeal.main (F := Ideal))) ⟨m, fun _ => 0, g⟩ (fun r => (∀ c : Dev Cert.RetincReferenceIdeal.nD,
      r.2.mem ((c.tc : Thread Cert.RetincReferenceIdeal.nD Cert.RetincReferenceIdeal.τ).loc Cert.RetincReferenceIdeal.main_arg0) = m ((c.tc : Thread Cert.RetincReferenceIdeal.nD Cert.RetincReferenceIdeal.τ).loc Cert.RetincReferenceIdeal.main_arg0)
      ∧ r.2.mem ((c.tc : Thread Cert.RetincReferenceIdeal.nD Cert.RetincReferenceIdeal.τ).loc Cert.RetincReferenceIdeal.main_arg1) = m ((c.tc : Thread Cert.RetincReferenceIdeal.nD Cert.RetincReferenceIdeal.τ).loc Cert.RetincReferenceIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Mid_MidIdeal : Prop :=
  IdealRules.named_const.Statement Cert.MidIdeal.κ "q_scale" .f32 0x3E0293EE#32 ((((Real.sqrt 128) * (Real.log 2))⁻¹ : ℝ) : EReal)

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v90_0)) (v1 : (c : Dev Cert.MidIdeal.nD) → Buf (Elt Ideal) ((c.tc : Thread Cert.MidIdeal.nD Cert.MidIdeal.τ).loc Cert.MidIdeal.main_v90_1)) (v2 : (c : Dev Cert.MidIdeal.nD) → Buf (Elt Ideal) ((c.tc : Thread Cert.MidIdeal.nD Cert.MidIdeal.τ).loc Cert.MidIdeal.main_v90_2)) (v3 : (c : Dev Cert.MidIdeal.nD) → Buf (Elt Ideal) ((c.tc : Thread Cert.MidIdeal.nD Cert.MidIdeal.τ).loc Cert.MidIdeal.main_v90_3)) (v4 : (c : Dev Cert.MidIdeal.nD) → Buf (Elt Ideal) ((c.tc : Thread Cert.MidIdeal.nD Cert.MidIdeal.τ).loc Cert.MidIdeal.main_v90_4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v90_0) = v0 c
          ∧ r.2.mem ((c.tc : Thread Cert.MidIdeal.nD Cert.MidIdeal.τ).loc Cert.MidIdeal.main_v90_1) = v1 c
          ∧ r.2.mem ((c.tc : Thread Cert.MidIdeal.nD Cert.MidIdeal.τ).loc Cert.MidIdeal.main_v90_2) = v2 c
          ∧ r.2.mem ((c.tc : Thread Cert.MidIdeal.nD Cert.MidIdeal.τ).loc Cert.MidIdeal.main_v90_3) = v3 c
          ∧ r.2.mem ((c.tc : Thread Cert.MidIdeal.nD Cert.MidIdeal.τ).loc Cert.MidIdeal.main_v90_4) = v4 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v146) = v0 c
          ∧ r.2.mem ((c.tc : Thread Cert.MidReferenceIdeal.nD Cert.MidReferenceIdeal.τ).loc Cert.MidReferenceIdeal.main_v156) = v1 c
          ∧ r.2.mem ((c.tc : Thread Cert.MidReferenceIdeal.nD Cert.MidReferenceIdeal.τ).loc Cert.MidReferenceIdeal.main_v160) = v2 c
          ∧ r.2.mem ((c.tc : Thread Cert.MidReferenceIdeal.nD Cert.MidReferenceIdeal.τ).loc Cert.MidReferenceIdeal.main_v164) = v3 c
          ∧ r.2.mem ((c.tc : Thread Cert.MidReferenceIdeal.nD Cert.MidReferenceIdeal.τ).loc Cert.MidReferenceIdeal.main_v166) = v4 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8))

def preserves_Retin_RetinIdeal : Prop :=
  True

def algebraic_RetinIdeal_RetinReferenceIdeal [hRetinIdeal : Cert.RetinIdeal.Facts] [hRetinReferenceIdeal : Cert.RetinReferenceIdeal.Facts] : Prop :=
  ∀ (m : (ℓ : Loc Cert.RetinIdeal.nD Cert.RetinIdeal.τ Cert.RetinIdeal.sig) → Buf (Elt Ideal) ℓ) (g : Dev Cert.RetinIdeal.nD → PrngReg)
    (m' : (ℓ : Loc Cert.RetinReferenceIdeal.nD Cert.RetinReferenceIdeal.τ Cert.RetinReferenceIdeal.sig) → Buf (Elt Ideal) ℓ) (g' : Dev Cert.RetinReferenceIdeal.nD → PrngReg), Pre_RetinIdeal m →
    (∀ c : Dev Cert.RetinIdeal.nD,
      m' ((c.tc : Thread Cert.RetinReferenceIdeal.nD Cert.RetinReferenceIdeal.τ).loc Cert.RetinReferenceIdeal.main_arg0) = m ((c.tc : Thread Cert.RetinIdeal.nD Cert.RetinIdeal.τ).loc Cert.RetinIdeal.main_arg0)
      ∧ m' ((c.tc : Thread Cert.RetinReferenceIdeal.nD Cert.RetinReferenceIdeal.τ).loc Cert.RetinReferenceIdeal.main_arg1) = m ((c.tc : Thread Cert.RetinIdeal.nD Cert.RetinIdeal.τ).loc Cert.RetinIdeal.main_arg1)) →
    ∃ (v0 : (c : Dev Cert.RetinIdeal.nD) → Buf (Elt Ideal) ((c.tc : Thread Cert.RetinIdeal.nD Cert.RetinIdeal.τ).loc Cert.RetinIdeal.main_v4)),
      θ_run (Cert.RetinIdeal.defs (F := Ideal)) (onTc (τ := Cert.RetinIdeal.τ) (Cert.RetinIdeal.main (F := Ideal))) ⟨m, fun _ => 0, g⟩ (fun r => ∀ c : Dev Cert.RetinIdeal.nD,
          r.2.mem ((c.tc : Thread Cert.RetinIdeal.nD Cert.RetinIdeal.τ).loc Cert.RetinIdeal.main_v4) = v0 c
          ∧ r.2.mem ((c.tc : Thread Cert.RetinIdeal.nD Cert.RetinIdeal.τ).loc Cert.RetinIdeal.main_arg0) = m ((c.tc : Thread Cert.RetinIdeal.nD Cert.RetinIdeal.τ).loc Cert.RetinIdeal.main_arg0)
          ∧ r.2.mem ((c.tc : Thread Cert.RetinIdeal.nD Cert.RetinIdeal.τ).loc Cert.RetinIdeal.main_arg1) = m ((c.tc : Thread Cert.RetinIdeal.nD Cert.RetinIdeal.τ).loc Cert.RetinIdeal.main_arg1))
      ∧ θ_run (Cert.RetinReferenceIdeal.defs (F := Ideal)) (onTc (τ := Cert.RetinReferenceIdeal.τ) (Cert.RetinReferenceIdeal.main (F := Ideal))) ⟨m', fun _ => 0, g'⟩ (fun r => ∀ c : Dev Cert.RetinReferenceIdeal.nD,
          r.2.mem ((c.tc : Thread Cert.RetinReferenceIdeal.nD Cert.RetinReferenceIdeal.τ).loc Cert.RetinReferenceIdeal.main_v3) = v0 c
          ∧ r.2.mem ((c.tc : Thread Cert.RetinReferenceIdeal.nD Cert.RetinReferenceIdeal.τ).loc Cert.RetinReferenceIdeal.main_arg0) = m' ((c.tc : Thread Cert.RetinReferenceIdeal.nD Cert.RetinReferenceIdeal.τ).loc Cert.RetinReferenceIdeal.main_arg0)
          ∧ r.2.mem ((c.tc : Thread Cert.RetinReferenceIdeal.nD Cert.RetinReferenceIdeal.τ).loc Cert.RetinReferenceIdeal.main_arg1) = m' ((c.tc : Thread Cert.RetinReferenceIdeal.nD Cert.RetinReferenceIdeal.τ).loc Cert.RetinReferenceIdeal.main_arg1))

def preserves_Retinc_RetincIdeal : Prop :=
  True

def algebraic_RetincIdeal_RetincReferenceIdeal [hRetincIdeal : Cert.RetincIdeal.Facts] [hRetincReferenceIdeal : Cert.RetincReferenceIdeal.Facts] : Prop :=
  ∀ (m : (ℓ : Loc Cert.RetincIdeal.nD Cert.RetincIdeal.τ Cert.RetincIdeal.sig) → Buf (Elt Ideal) ℓ) (g : Dev Cert.RetincIdeal.nD → PrngReg)
    (m' : (ℓ : Loc Cert.RetincReferenceIdeal.nD Cert.RetincReferenceIdeal.τ Cert.RetincReferenceIdeal.sig) → Buf (Elt Ideal) ℓ) (g' : Dev Cert.RetincReferenceIdeal.nD → PrngReg), Pre_RetincIdeal m →
    (∀ c : Dev Cert.RetincIdeal.nD,
      m' ((c.tc : Thread Cert.RetincReferenceIdeal.nD Cert.RetincReferenceIdeal.τ).loc Cert.RetincReferenceIdeal.main_arg0) = m ((c.tc : Thread Cert.RetincIdeal.nD Cert.RetincIdeal.τ).loc Cert.RetincIdeal.main_arg0)
      ∧ m' ((c.tc : Thread Cert.RetincReferenceIdeal.nD Cert.RetincReferenceIdeal.τ).loc Cert.RetincReferenceIdeal.main_arg1) = m ((c.tc : Thread Cert.RetincIdeal.nD Cert.RetincIdeal.τ).loc Cert.RetincIdeal.main_arg1)) →
    ∃ (v0 : (c : Dev Cert.RetincIdeal.nD) → Buf (Elt Ideal) ((c.tc : Thread Cert.RetincIdeal.nD Cert.RetincIdeal.τ).loc Cert.RetincIdeal.main_v4)),
      θ_run (Cert.RetincIdeal.defs (F := Ideal)) (onTc (τ := Cert.RetincIdeal.τ) (Cert.RetincIdeal.main (F := Ideal))) ⟨m, fun _ => 0, g⟩ (fun r => ∀ c : Dev Cert.RetincIdeal.nD,
          r.2.mem ((c.tc : Thread Cert.RetincIdeal.nD Cert.RetincIdeal.τ).loc Cert.RetincIdeal.main_v4) = v0 c
          ∧ r.2.mem ((c.tc : Thread Cert.RetincIdeal.nD Cert.RetincIdeal.τ).loc Cert.RetincIdeal.main_arg0) = m ((c.tc : Thread Cert.RetincIdeal.nD Cert.RetincIdeal.τ).loc Cert.RetincIdeal.main_arg0)
          ∧ r.2.mem ((c.tc : Thread Cert.RetincIdeal.nD Cert.RetincIdeal.τ).loc Cert.RetincIdeal.main_arg1) = m ((c.tc : Thread Cert.RetincIdeal.nD Cert.RetincIdeal.τ).loc Cert.RetincIdeal.main_arg1))
      ∧ θ_run (Cert.RetincReferenceIdeal.defs (F := Ideal)) (onTc (τ := Cert.RetincReferenceIdeal.τ) (Cert.RetincReferenceIdeal.main (F := Ideal))) ⟨m', fun _ => 0, g'⟩ (fun r => ∀ c : Dev Cert.RetincReferenceIdeal.nD,
          r.2.mem ((c.tc : Thread Cert.RetincReferenceIdeal.nD Cert.RetincReferenceIdeal.τ).loc Cert.RetincReferenceIdeal.main_v3) = v0 c
          ∧ r.2.mem ((c.tc : Thread Cert.RetincReferenceIdeal.nD Cert.RetincReferenceIdeal.τ).loc Cert.RetincReferenceIdeal.main_arg0) = m' ((c.tc : Thread Cert.RetincReferenceIdeal.nD Cert.RetincReferenceIdeal.τ).loc Cert.RetincReferenceIdeal.main_arg0)
          ∧ r.2.mem ((c.tc : Thread Cert.RetincReferenceIdeal.nD Cert.RetincReferenceIdeal.τ).loc Cert.RetincReferenceIdeal.main_arg1) = m' ((c.tc : Thread Cert.RetincReferenceIdeal.nD Cert.RetincReferenceIdeal.τ).loc Cert.RetincReferenceIdeal.main_arg1))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidReferenceIdeal : Cert.MidReferenceIdeal.Facts) (hRetin : Cert.Retin.Facts) (hRetinIdeal : Cert.RetinIdeal.Facts) (hRetinReferenceIdeal : Cert.RetinReferenceIdeal.Facts) (hRetinc : Cert.Retinc.Facts) (hRetincIdeal : Cert.RetincIdeal.Facts) (hRetincReferenceIdeal : Cert.RetincReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Mid (hMid := hMid)
    ∧ quiescent_MidIdeal (hMidIdeal := hMidIdeal)
    ∧ quiescent_MidReferenceIdeal (hMidReferenceIdeal := hMidReferenceIdeal)
    ∧ quiescent_Retin (hRetin := hRetin)
    ∧ quiescent_RetinIdeal (hRetinIdeal := hRetinIdeal)
    ∧ quiescent_RetinReferenceIdeal (hRetinReferenceIdeal := hRetinReferenceIdeal)
    ∧ quiescent_Retinc (hRetinc := hRetinc)
    ∧ quiescent_RetincIdeal (hRetincIdeal := hRetincIdeal)
    ∧ quiescent_RetincReferenceIdeal (hRetincReferenceIdeal := hRetincReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Mid_MidIdeal
    ∧ algebraic_MidIdeal_MidReferenceIdeal (hMidIdeal := hMidIdeal) (hMidReferenceIdeal := hMidReferenceIdeal)
    ∧ preserves_Retin_RetinIdeal
    ∧ algebraic_RetinIdeal_RetinReferenceIdeal (hRetinIdeal := hRetinIdeal) (hRetinReferenceIdeal := hRetinReferenceIdeal)
    ∧ preserves_Retinc_RetincIdeal
    ∧ algebraic_RetincIdeal_RetincReferenceIdeal (hRetincIdeal := hRetincIdeal) (hRetincReferenceIdeal := hRetincReferenceIdeal)
-- ==== Pre_finite_qk.lean ====
abbrev S32x2048x8x128 : Shape := ⟨4, ![32, 2048, 8, 128]⟩
abbrev S32x2048x2x128 : Shape := ⟨4, ![32, 2048, 2, 128]⟩
abbrev S32x256x2x128 : Shape := ⟨4, ![32, 256, 2, 128]⟩
abbrev S32x2048x1024 : Shape := ⟨3, ![32, 2048, 1024]⟩
abbrev S2x40x1x3072 : Shape := ⟨4, ![2, 40, 1, 3072]⟩
abbrev S1024x1024 : Shape := ⟨2, ![1024, 1024]⟩
abbrev S1024 : Shape := ⟨1, ![1024]⟩
abbrev S_ : Shape := ⟨0, ![]⟩

class Facts : Prop where
  bcast_S_S32x2048x8x128 : S_.BroadcastsInDim S32x2048x8x128 (![] : Fin 0 → Fin S32x2048x8x128.rank)
  reducesTo_S32x2048x8x128_S_d0_1_2_3 : S32x2048x8x128.ReducesTo [0, 1, 2, 3] S_
  h_S_ : 0 < S_.numel
  bcast_S_S32x2048x2x128 : S_.BroadcastsInDim S32x2048x2x128 (![] : Fin 0 → Fin S32x2048x2x128.rank)
  reducesTo_S32x2048x2x128_S_d0_1_2_3 : S32x2048x2x128.ReducesTo [0, 1, 2, 3] S_
  bcast_S_S32x256x2x128 : S_.BroadcastsInDim S32x256x2x128 (![] : Fin 0 → Fin S32x256x2x128.rank)
  reducesTo_S32x256x2x128_S_d0_1_2_3 : S32x256x2x128.ReducesTo [0, 1, 2, 3] S_

variable [Facts]

def fn {F : FTy → Type} [FloatOps F] (main_arg0 : FVec F S32x2048x8x128 .f32) (main_arg1 : FVec F S32x2048x2x128 .f32) (main_arg2 : FVec F S32x2048x2x128 .f32) (main_arg3 : FVec F S32x256x2x128 .f32) (main_arg4 : FVec F S32x256x2x128 .f32) (main_arg5 : FVec F S32x2048x1024 .f32) (main_arg6 : FVec F S32x2048x1024 .f32) (main_arg7 : FVec F S2x40x1x3072 .f32) (main_arg8 : FVec F S1024x1024 .f32) (main_arg9 : FVec F S1024 .f32) : IVec S_ 1 :=
  let main_v0 : FVec F S32x2048x8x128 .f32 := Host.absf main_arg0
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_c : IVec S_ 1 := constantI S_ 1 1#1
  let main_v3 : IVec S_ 1 := (fun x v => Host.reduce IntOp.andi x v reducesTo_S32x2048x8x128_S_d0_1_2_3 h_S_) main_v2 main_c
  let main_v4 : FVec F S32x2048x2x128 .f32 := Host.absf main_arg1
  let main_cst_0 : FVec F S_ .f32 := constant S_ .f32 0x7F800000#32
  let main_v5 : FVec F S32x2048x2x128 .f32 := broadcastInDim S32x2048x2x128 ![] bcast_S_S32x2048x2x128 main_cst_0
  let main_v6 : IVec S32x2048x2x128 1 := cmpf .olt main_v4 main_v5
  let main_c_1 : IVec S_ 1 := constantI S_ 1 1#1
  let main_v7 : IVec S_ 1 := (fun x v => Host.reduce IntOp.andi x v reducesTo_S32x2048x2x128_S_d0_1_2_3 h_S_) main_v6 main_c_1
  let main_v8 : IVec S_ 1 := andi main_v3 main_v7
  let main_v9 : FVec F S32x256x2x128 .f32 := Host.absf main_arg3
  let main_cst_2 : FVec F S_ .f32 := constant S_ .f32 0x7F800000#32
  let main_v10 : FVec F S32x256x2x128 .f32 := broadcastInDim S32x256x2x128 ![] bcast_S_S32x256x2x128 main_cst_2
  let main_v11 : IVec S32x256x2x128 1 := cmpf .olt main_v9 main_v10
  let main_c_3 : IVec S_ 1 := constantI S_ 1 1#1
  let main_v12 : IVec S_ 1 := (fun x v => Host.reduce IntOp.andi x v reducesTo_S32x256x2x128_S_d0_1_2_3 h_S_) main_v11 main_c_3
  let main_v13 : IVec S_ 1 := andi main_v8 main_v12
  main_v13
-- ==== Kernel.lean ====
abbrev S32x2048x8x128 : Shape := ⟨4, ![32, 2048, 8, 128]⟩
abbrev S32x2048x2x128 : Shape := ⟨4, ![32, 2048, 2, 128]⟩
abbrev S32x256x2x128 : Shape := ⟨4, ![32, 256, 2, 128]⟩
abbrev S32x2048x1024 : Shape := ⟨3, ![32, 2048, 1024]⟩
abbrev S2x40x1x3072 : Shape := ⟨4, ![2, 40, 1, 3072]⟩
abbrev S1024x1024 : Shape := ⟨2, ![1024, 1024]⟩
abbrev S1024 : Shape := ⟨1, ![1024]⟩
abbrev S65536x1024 : Shape := ⟨2, ![65536, 1024]⟩
abbrev S_ : Shape := ⟨0, ![]⟩
abbrev S65536x256 : Shape := ⟨2, ![65536, 256]⟩
abbrev S8192x256 : Shape := ⟨2, ![8192, 256]⟩
abbrev S8192x128 : Shape := ⟨2, ![8192, 128]⟩
abbrev S8192x512 : Shape := ⟨2, ![8192, 512]⟩
abbrev S65536x128 : Shape := ⟨2, ![65536, 128]⟩
abbrev S65536x512 : Shape := ⟨2, ![65536, 512]⟩
abbrev S1x1024 : Shape := ⟨2, ![1, 1024]⟩
abbrev S256x256 : Shape := ⟨2, ![256, 256]⟩
abbrev S256x512 : Shape := ⟨2, ![256, 512]⟩
abbrev S2048x256 : Shape := ⟨2, ![2048, 256]⟩
abbrev S2048x512 : Shape := ⟨2, ![2048, 512]⟩
abbrev S1x1x1x3072 : Shape := ⟨4, ![1, 1, 1, 3072]⟩
abbrev S1024x128 : Shape := ⟨2, ![1024, 128]⟩
abbrev S256x128 : Shape := ⟨2, ![256, 128]⟩
abbrev S1024x256 : Shape := ⟨2, ![1024, 256]⟩
abbrev S2048x128 : Shape := ⟨2, ![2048, 128]⟩
abbrev S1024x2048 : Shape := ⟨2, ![1024, 2048]⟩
abbrev S1024x1 : Shape := ⟨2, ![1024, 1]⟩
abbrev S1x1x1x1024 : Shape := ⟨4, ![1, 1, 1, 1024]⟩

abbrev nBuf : Space → Nat
  | .hbm => 43
  | .vmem => 20
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x2x128, .f32⟩
  | .hbm, ⟨2, _⟩ => ⟨S32x2048x2x128, .f32⟩
  | .hbm, ⟨3, _⟩ => ⟨S32x256x2x128, .f32⟩
  | .hbm, ⟨4, _⟩ => ⟨S32x256x2x128, .f32⟩
  | .hbm, ⟨5, _⟩ => ⟨S32x2048x1024, .f32⟩
  | .hbm, ⟨6, _⟩ => ⟨S32x2048x1024, .f32⟩
  | .hbm, ⟨7, _⟩ => ⟨S2x40x1x3072, .f32⟩
  | .hbm, ⟨8, _⟩ => ⟨S1024x1024, .f32⟩
  | .hbm, ⟨9, _⟩ => ⟨S1024, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .bf16⟩
  | .hbm, ⟨19, _⟩ => ⟨S65536x256, .f32⟩
  | .hbm, ⟨20, _⟩ => ⟨S65536x256, .bf16⟩
  | .hbm, ⟨21, _⟩ => ⟨S8192x256, .f32⟩
  | .hbm, ⟨22, _⟩ => ⟨S8192x256, .bf16⟩
  | .hbm, ⟨23, _⟩ => ⟨S65536x1024, .f32⟩
  | .hbm, ⟨24, _⟩ => ⟨S65536x1024, .bf16⟩
  | .hbm, ⟨25, _⟩ => ⟨S8192x256, .f32⟩
  | .hbm, ⟨26, _⟩ => ⟨S8192x256, .bf16⟩
  | .hbm, ⟨27, _⟩ => ⟨S_, .bf16⟩
  | .hbm, ⟨28, _⟩ => ⟨S8192x128, .bf16⟩
  | .hbm, ⟨29, _⟩ => ⟨S8192x128, .bf16⟩
  | .hbm, ⟨30, _⟩ => ⟨S8192x128, .bf16⟩
  | .hbm, ⟨31, _⟩ => ⟨S8192x512, .bf16⟩
  | .hbm, ⟨32, _⟩ => ⟨S65536x256, .f32⟩
  | .hbm, ⟨33, _⟩ => ⟨S65536x256, .bf16⟩
  | .hbm, ⟨34, _⟩ => ⟨S_, .bf16⟩
  | .hbm, ⟨35, _⟩ => ⟨S65536x128, .bf16⟩
  | .hbm, ⟨36, _⟩ => ⟨S65536x128, .bf16⟩
  | .hbm, ⟨37, _⟩ => ⟨S65536x128, .bf16⟩
  | .hbm, ⟨38, _⟩ => ⟨S65536x512, .bf16⟩
  | .hbm, ⟨39, _⟩ => ⟨S65536x1024, .f32⟩
  | .hbm, ⟨40, _⟩ => ⟨S1024x1024, .bf16⟩
  | .hbm, ⟨41, _⟩ => ⟨S1x1024, .f32⟩
  | .hbm, ⟨42, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S2048x256, .bf16⟩
  | .local _ .vmem, ⟨7, _⟩ => ⟨S2048x256, .bf16⟩
  | .local _ .vmem, ⟨8, _⟩ => ⟨S2048x512, .bf16⟩
  | .local _ .vmem, ⟨9, _⟩ => ⟨S2048x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1x1x3072, .f32⟩
  | .local _ .vmem, ⟨15, _⟩ => ⟨S1x1x1x3072, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S32x2048x8x128 : Shape := ⟨4, ![32, 2048, 8, 128]⟩
abbrev S32x2048x2x128 : Shape := ⟨4, ![32, 2048, 2, 128]⟩
abbrev S32x256x2x128 : Shape := ⟨4, ![32, 256, 2, 128]⟩
abbrev S32x2048x1024 : Shape := ⟨3, ![32, 2048, 1024]⟩
abbrev S2x40x1x3072 : Shape := ⟨4, ![2, 40, 1, 3072]⟩
abbrev S1024x1024 : Shape := ⟨2, ![1024, 1024]⟩
abbrev S1024 : Shape := ⟨1, ![1024]⟩
abbrev S32x2304x2x128 : Shape := ⟨4, ![32, 2304, 2, 128]⟩
abbrev S32x2048x2x4x128 : Shape := ⟨5, ![32, 2048, 2, 4, 128]⟩
abbrev S32x2x2304x2048x4 : Shape := ⟨5, ![32, 2, 2304, 2048, 4]⟩
abbrev S32x2x4x2048x2304 : Shape := ⟨5, ![32, 2, 4, 2048, 2304]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x128x4x2048 : Shape := ⟨5, ![32, 2, 128, 4, 2048]⟩
abbrev S1x32x1x1024 : Shape := ⟨4, ![1, 32, 1, 1024]⟩
abbrev S32x1x1024 : Shape := ⟨3, ![32, 1, 1024]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x2x128, .f32⟩
  | .hbm, ⟨2, _⟩ => ⟨S32x2048x2x128, .f32⟩
  | .hbm, ⟨3, _⟩ => ⟨S32x256x2x128, .f32⟩
  | .hbm, ⟨4, _⟩ => ⟨S32x256x2x128, .f32⟩
  | .hbm, ⟨5, _⟩ => ⟨S32x2048x1024, .f32⟩
  | .hbm, ⟨6, _⟩ => ⟨S32x2048x1024, .f32⟩
  | .hbm, ⟨7, _⟩ => ⟨S2x40x1x3072, .f32⟩
  | .hbm, ⟨8, _⟩ => ⟨S1024x1024, .f32⟩
  | .hbm, ⟨9, _⟩ => ⟨S1024, .f32⟩
  | .hbm, ⟨10, _⟩ => ⟨S32x2304x2x128, .f32⟩
  | .hbm, ⟨11, _⟩ => ⟨S32x2304x2x128, .f32⟩
  | .hbm, ⟨12, _⟩ => ⟨S32x2048x2x4x128, .f32⟩
  | .hbm, ⟨13, _⟩ => ⟨S32x2x2304x2048x4, .f32⟩
  | .hbm, ⟨14, _⟩ => ⟨S32x2x4x2048x2304, .f32⟩
  | .hbm, ⟨15, _⟩ => ⟨S_, .f32⟩
  | .hbm, ⟨16, _⟩ => ⟨S32x2x4x2048x2304, .f32⟩
  | .hbm, ⟨17, _⟩ => ⟨S32x2x4x2048x2304, .f32⟩
  | .hbm, ⟨18, _⟩ => ⟨S_, .f32⟩
  | .hbm, ⟨19, _⟩ => ⟨S32x2x4x2048, .f32⟩
  | .hbm, ⟨20, _⟩ => ⟨S_, .f32⟩
  | .hbm, ⟨21, _⟩ => ⟨S32x2x4x2048, .f32⟩
  | .hbm, ⟨22, _⟩ => ⟨S32x2x4x2048, .f32⟩
  | .hbm, ⟨23, _⟩ => ⟨S32x2x4x2048x1, .f32⟩
  | .hbm, ⟨24, _⟩ => ⟨S32x2x4x2048x2304, .f32⟩
  | .hbm, ⟨25, _⟩ => ⟨S32x2x4x2048x2304, .f32⟩
  | .hbm, ⟨26, _⟩ => ⟨S32x2x4x2048x2304, .f32⟩
  | .hbm, ⟨27, _⟩ => ⟨S_, .f32⟩
  | .hbm, ⟨28, _⟩ => ⟨S32x2x4x2048, .f32⟩
  | .hbm, ⟨29, _⟩ => ⟨S32x2x4x2048x1, .f32⟩
  | .hbm, ⟨30, _⟩ => ⟨S32x2x4x2048x2304, .f32⟩
  | .hbm, ⟨31, _⟩ => ⟨S32x2x4x2048x2304, .f32⟩
  | .hbm, ⟨32, _⟩ => ⟨S32x2x128x4x2048, .f32⟩
  | .hbm, ⟨33, _⟩ => ⟨S32x2048x2x4x128, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S1x32x1x1024, .f32⟩
  | .hbm, ⟨47, _⟩ => ⟨S32x1x1024, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S65536x1024, .f32⟩
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Mid.lean ====
abbrev S32x2048x1024 : Shape := ⟨3, ![32, 2048, 1024]⟩
abbrev S32x2048x512 : Shape := ⟨3, ![32, 2048, 512]⟩
abbrev S2x40x1x3072 : Shape := ⟨4, ![2, 40, 1, 3072]⟩
abbrev S1024x1024 : Shape := ⟨2, ![1024, 1024]⟩
abbrev S1024 : Shape := ⟨1, ![1024]⟩
abbrev S1024x2560 : Shape := ⟨2, ![1024, 2560]⟩
abbrev S128 : Shape := ⟨1, ![128]⟩
abbrev S65536x512 : Shape := ⟨2, ![65536, 512]⟩
abbrev S512x65536 : Shape := ⟨2, ![512, 65536]⟩
abbrev S512x1024 : Shape := ⟨2, ![512, 1024]⟩
abbrev S64 : Shape := ⟨1, ![64]⟩
abbrev S_ : Shape := ⟨0, ![]⟩
abbrev S10 : Shape := ⟨1, ![10]⟩
abbrev S10x1 : Shape := ⟨2, ![10, 1]⟩
abbrev S1x128 : Shape := ⟨2, ![1, 128]⟩
abbrev S10x128 : Shape := ⟨2, ![10, 128]⟩
abbrev S1280 : Shape := ⟨1, ![1280]⟩
abbrev S1280x1 : Shape := ⟨2, ![1280, 1]⟩
abbrev S1024x1280 : Shape := ⟨2, ![1024, 1280]⟩
abbrev S128x1 : Shape := ⟨2, ![128, 1]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S65536x1024 : Shape := ⟨2, ![65536, 1024]⟩
abbrev S1x1024 : Shape := ⟨2, ![1, 1024]⟩
abbrev S65536x256 : Shape := ⟨2, ![65536, 256]⟩
abbrev S512x512 : Shape := ⟨2, ![512, 512]⟩
abbrev S1x1x1x3072 : Shape := ⟨4, ![1, 1, 1, 3072]⟩
abbrev S512x128 : Shape := ⟨2, ![512, 128]⟩
abbrev S512x256 : Shape := ⟨2, ![512, 256]⟩
abbrev S256x1024 : Shape := ⟨2, ![256, 1024]⟩
abbrev S256x512 : Shape := ⟨2, ![256, 512]⟩
abbrev S1x1x1x1024 : Shape := ⟨4, ![1, 1, 1, 1024]⟩
abbrev S256 : Shape := ⟨1, ![256]⟩
abbrev S256x1 : Shape := ⟨2, ![256, 1]⟩
abbrev S256x128 : Shape := ⟨2, ![256, 128]⟩
abbrev S1024x256 : Shape := ⟨2, ![1024, 256]⟩
abbrev S256x256 : Shape := ⟨2, ![256, 256]⟩

abbrev nBuf : Space → Nat
  | .hbm => 119
  | .vmem => 30
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S2x40x1x3072, .f32⟩
  | .hbm, ⟨4, _⟩ => ⟨S1024x1024, .f32⟩
  | .hbm, ⟨5, _⟩ => ⟨S1024, .f32⟩
  | .hbm, ⟨6, _⟩ => ⟨S1024x2560, .f32⟩
  | .hbm, ⟨7, _⟩ => ⟨S128, .f32⟩
  | .hbm, ⟨8, _⟩ => ⟨S128, .f32⟩
  | .hbm, ⟨9, _⟩ => ⟨S65536x512, .f32⟩
  | .hbm, ⟨10, _⟩ => ⟨S512x65536, .f32⟩
  | .hbm, ⟨11, _⟩ => ⟨S512x65536, .bf16⟩
  | .hbm, ⟨12, _⟩ => ⟨S65536x512, .f32⟩
  | .hbm, ⟨13, _⟩ => ⟨S65536x512, .bf16⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S128, .i32⟩
  | .hbm, ⟨33, _⟩ => ⟨S10, .i32⟩
  | .hbm, ⟨34, _⟩ => ⟨S10x1, .i32⟩
  | .hbm, ⟨35, _⟩ => ⟨S_, .i32⟩
  | .hbm, ⟨36, _⟩ => ⟨S10x1, .i32⟩
  | .hbm, ⟨37, _⟩ => ⟨S10x1, .i32⟩
  | .hbm, ⟨38, _⟩ => ⟨S1x128, .i32⟩
  | .hbm, ⟨39, _⟩ => ⟨S10x128, .i32⟩
  | .hbm, ⟨40, _⟩ => ⟨S10x128, .i32⟩
  | .hbm, ⟨41, _⟩ => ⟨S10x128, .i32⟩
  | .hbm, ⟨42, _⟩ => ⟨S1280, .i32⟩
  | .hbm, ⟨43, _⟩ => ⟨S_, .i32⟩
  | .hbm, ⟨44, _⟩ => ⟨S1280, .i32⟩
  | .hbm, ⟨45, _⟩ => ⟨S1280, .i1⟩
  | .hbm, ⟨46, _⟩ => ⟨S_, .i32⟩
  | .hbm, ⟨47, _⟩ => ⟨S1280, .i32⟩
  | .hbm, ⟨48, _⟩ => ⟨S1280, .i32⟩
  | .hbm, ⟨49, _⟩ => ⟨S1280, .i32⟩
  | .hbm, ⟨50, _⟩ => ⟨S1280x1, .i32⟩
  | .hbm, ⟨51, _⟩ => ⟨S1024x1280, .f32⟩
  | .hbm, ⟨52, _⟩ => ⟨S1024x1280, .f32⟩
  | .hbm, ⟨53, _⟩ => ⟨S1024x2560, .f32⟩
  | .hbm, ⟨54, _⟩ => ⟨S1024x2560, .bf16⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S128x1, .i32⟩
  | .hbm, ⟨63, _⟩ => ⟨S128, .f32⟩
  | .hbm, ⟨64, _⟩ => ⟨S1x128, .f32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S128x1, .i32⟩
  | .hbm, ⟨73, _⟩ => ⟨S128, .f32⟩
  | .hbm, ⟨74, _⟩ => ⟨S1x128, .f32⟩
  | .hbm, ⟨75, _⟩ => ⟨S32, .f32⟩
  | .hbm, ⟨76, _⟩ => ⟨S32x64, .f32⟩
  | .hbm, ⟨77, _⟩ => ⟨S2048, .f32⟩
  | .hbm, ⟨78, _⟩ => ⟨S64, .f32⟩
  | .hbm, ⟨79, _⟩ => ⟨S1x64, .f32⟩
  | .hbm, ⟨80, _⟩ => ⟨S32x64, .f32⟩
  | .hbm, ⟨81, _⟩ => ⟨S2048, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S2048x1, .f32⟩
  | .hbm, ⟨97, _⟩ => ⟨S1x32, .f32⟩
  | .hbm, ⟨98, _⟩ => ⟨S2048x32, .f32⟩
  | .hbm, ⟨99, _⟩ => ⟨S2048x32, .f32⟩
  | .hbm, ⟨100, _⟩ => ⟨S2048x32, .f32⟩
  | .hbm, ⟨101, _⟩ => ⟨S2048x1, .f32⟩
  | .hbm, ⟨102, _⟩ => ⟨S1x32, .f32⟩
  | .hbm, ⟨103, _⟩ => ⟨S2048x32, .f32⟩
  | .hbm, ⟨104, _⟩ => ⟨S2048x32, .f32⟩
  | .hbm, ⟨105, _⟩ => ⟨S2048x32, .f32⟩
  | .hbm, ⟨106, _⟩ => ⟨S2048x64, .f32⟩
  | .hbm, ⟨107, _⟩ => ⟨S2048x64, .f32⟩
  | .hbm, ⟨108, _⟩ => ⟨S2048x64, .f32⟩
  | .hbm, ⟨109, _⟩ => ⟨S2048x128, .f32⟩
  | .hbm, ⟨110, _⟩ => ⟨S2048x64, .f32⟩
  | .hbm, ⟨111, _⟩ => ⟨S2048x128, .f32⟩
  | .hbm, ⟨112, _⟩ => ⟨S65536x1024, .f32⟩
  | .hbm, ⟨113, _⟩ => ⟨S1x1024, .f32⟩
  | .hbm, ⟨114, _⟩ => ⟨S65536x1024, .f32⟩
  | .hbm, ⟨115, _⟩ => ⟨S65536x1024, .bf16⟩
  | .hbm, ⟨116, _⟩ => ⟨S65536x256, .bf16⟩
  | .hbm, ⟨117, _⟩ => ⟨S65536x512, .bf16⟩
  | .hbm, ⟨118, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1x3072, .f32⟩
  | .local _ .vmem, ⟨7, _⟩ => ⟨S1x1x1x3072, .f32⟩
  | .local _ .vmem, ⟨8, _⟩ => ⟨S1x1x1x3072, .f32⟩
  | .local _ .vmem, ⟨9, _⟩ => ⟨S1x1x1x3072, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x2560, .bf16⟩
  | .local _ .vmem, ⟨14, _⟩ => ⟨S1x128, .f32⟩
  | .local _ .vmem, ⟨15, _⟩ => ⟨S1x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90_0 : Ref sig .tc := ⟨.hbm, 114, rfl⟩
abbrev main_v90_1 : Ref sig .tc := ⟨.hbm, 115, rfl⟩
abbrev main_v90_2 : Ref sig .tc := ⟨.hbm, 116, rfl⟩
abbrev main_v90_3 : Ref sig .tc := ⟨.hbm, 117, rfl⟩
abbrev main_v90_4 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MidIdeal.lean ====
variable {F : FTy → Type} [FloatOps F] [Named F]
def κ : String → Option EReal := fun
  | "q_scale" => some ((((Real.sqrt 128) * (Real.log 2))⁻¹ : ℝ) : EReal)
  | _ => none
-- ==== MidReferenceIdeal.lean ====
abbrev S32x2048x1024 : Shape := ⟨3, ![32, 2048, 1024]⟩
abbrev S32x2048x512 : Shape := ⟨3, ![32, 2048, 512]⟩
abbrev S2x40x1x3072 : Shape := ⟨4, ![2, 40, 1, 3072]⟩
abbrev S1024x1024 : Shape := ⟨2, ![1024, 1024]⟩
abbrev S1024 : Shape := ⟨1, ![1024]⟩
abbrev S1024x2560 : Shape := ⟨2, ![1024, 2560]⟩
abbrev S128 : Shape := ⟨1, ![128]⟩
abbrev S1x32x1x1024 : Shape := ⟨4, ![1, 32, 1, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2560 : Shape := ⟨3, ![32, 2048, 2560]⟩
abbrev S32x2048x256 : Shape := ⟨3, ![32, 2048, 256]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S32x2048x8x128 : Shape := ⟨4, ![32, 2048, 8, 128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩
abbrev S2048x1x64 : Shape := ⟨3, ![2048, 1, 64]⟩
abbrev S32x2048x8x64x2 : Shape := ⟨5, ![32, 2048, 8, 64, 2]⟩
abbrev S32x2048x8x64x1 : Shape := ⟨5, ![32, 2048, 8, 64, 1]⟩
abbrev S32x2048x8x64 : Shape := ⟨4, ![32, 2048, 8, 64]⟩
abbrev S1x2048x1x64 : Shape := ⟨4, ![1, 2048, 1, 64]⟩
abbrev S32x2048x2x128 : Shape := ⟨4, ![32, 2048, 2, 128]⟩
abbrev S32x2048x2 : Shape := ⟨3, ![32, 2048, 2]⟩
abbrev S32x2048x2x1 : Shape := ⟨4, ![32, 2048, 2, 1]⟩
abbrev S32x2048x2x64x2 : Shape := ⟨5, ![32, 2048, 2, 64, 2]⟩
abbrev S32x2048x2x64x1 : Shape := ⟨5, ![32, 2048, 2, 64, 1]⟩
abbrev S32x2048x2x64 : Shape := ⟨4, ![32, 2048, 2, 64]⟩
abbrev S65536x1024 : Shape := ⟨2, ![65536, 1024]⟩
abbrev S32x2048x8x2x64 : Shape := ⟨5, ![32, 2048, 8, 2, 64]⟩
abbrev S32x2048x2x2x64 : Shape := ⟨5, ![32, 2048, 2, 2, 64]⟩
abbrev S65536x256 : Shape := ⟨2, ![65536, 256]⟩
abbrev S32x2048x2x256 : Shape := ⟨4, ![32, 2048, 2, 256]⟩
abbrev S65536x512 : Shape := ⟨2, ![65536, 512]⟩

abbrev nBuf : Space → Nat
  | .hbm => 193
  | .vmem => 0
  | .smem => 0
  | _ => 0

abbrev hbmTy0_0 (i : Nat) : BufTy := match i % 128 with
  | 0 => ⟨S32x2048x1024, .f32⟩
  | 1 => ⟨S32x2048x512, .f32⟩
  | 2 => ⟨S32x2048x512, .f32⟩
  | 3 => ⟨S2x40x1x3072, .f32⟩
  | 4 => ⟨S1024x1024, .f32⟩
  | 5 => ⟨S1024, .f32⟩
  | 6 => ⟨S1024x2560, .f32⟩
  | 7 => ⟨S128, .f32⟩
  | 8 => ⟨S128, .f32⟩
  | 9 => ⟨S1x32x1x1024, .f32⟩
  | 10 => ⟨S32x1x1024, .f32⟩
  | 11 => ⟨S32x2048x1024, .f32⟩
  | 12 => ⟨S32x2048x1024, .f32⟩
  | 13 => ⟨S32x2048x1024, .f32⟩
  | 14 => ⟨S32x2048x1024, .f32⟩
  | 15 => ⟨S32x2048x1024, .f32⟩
  | 16 => ⟨S32x2048x1024, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S_, .f32⟩
  | 24 => ⟨S32x2048x1, .f32⟩
  | 25 => ⟨S32x2048x1, .f32⟩
  | 26 => ⟨S32x2048x1, .f32⟩
  | 27 => ⟨S32x2048x1024, .f32⟩
  | 28 => ⟨S32x2048x1024, .f32⟩
  | 29 => ⟨S1x1x1024, .f32⟩
  | 30 => ⟨S32x2048x1024, .f32⟩
  | 31 => ⟨S32x2048x1024, .f32⟩
  | 32 => ⟨S1x32x1x1024, .f32⟩
  | 33 => ⟨S32x1x1024, .f32⟩
  | 34 => ⟨S_, .f32⟩
  | 35 => ⟨S32x1x1024, .f32⟩
  | 36 => ⟨S32x1x1024, .f32⟩
  | 37 => ⟨S32x2048x1024, .f32⟩
  | 38 => ⟨S32x2048x1024, .f32⟩
  | 39 => ⟨S1x32x1x1024, .f32⟩
  | 40 => ⟨S32x1x1024, .f32⟩
  | 41 => ⟨S32x2048x1024, .f32⟩
  | 42 => ⟨S32x2048x1024, .f32⟩
  | 43 => ⟨S32x2048x2560, .f32⟩
  | 44 => ⟨S32x2048x1024, .f32⟩
  | 45 => ⟨S32x2048x256, .f32⟩
  | 46 => ⟨S32x2048x256, .f32⟩
  | 47 => ⟨S32x2048x1024, .f32⟩
  | 48 => ⟨S32, .f32⟩
  | 49 => ⟨S32x64, .f32⟩
  | 50 => ⟨S2048, .f32⟩
  | 51 => ⟨S64, .f32⟩
  | 52 => ⟨S1x64, .f32⟩
  | 53 => ⟨S32x64, .f32⟩
  | 54 => ⟨S2048, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S2048x1, .f32⟩
  | 70 => ⟨S1x32, .f32⟩
  | 71 => ⟨S2048x32, .f32⟩
  | 72 => ⟨S2048x32, .f32⟩
  | 73 => ⟨S2048x32, .f32⟩
  | 74 => ⟨S2048x1, .f32⟩
  | 75 => ⟨S1x32, .f32⟩
  | 76 => ⟨S2048x32, .f32⟩
  | 77 => ⟨S2048x32, .f32⟩
  | 78 => ⟨S2048x32, .f32⟩
  | 79 => ⟨S2048x64, .f32⟩
  | 80 => ⟨S32x2048x8x128, .f32⟩
  | 81 => ⟨S32x2048x8x128, .f32⟩
  | 82 => ⟨S_, .f32⟩
  | 83 => ⟨S32x2048x8, .f32⟩
  | 84 => ⟨S32x2048x8x1, .f32⟩
  | 85 => ⟨S_, .f32⟩
  | 86 => ⟨S32x2048x8x1, .f32⟩
  | 87 => ⟨S32x2048x8x1, .f32⟩
  | 88 => ⟨S_, .f32⟩
  | 89 => ⟨S32x2048x8x1, .f32⟩
  | 90 => ⟨S32x2048x8x1, .f32⟩
  | 91 => ⟨S32x2048x8x1, .f32⟩
  | 92 => ⟨S32x2048x8x128, .f32⟩
  | 93 => ⟨S32x2048x8x128, .f32⟩
  | 94 => ⟨S1x1x1x128, .f32⟩
  | 95 => ⟨S32x2048x8x128, .f32⟩
  | 96 => ⟨S32x2048x8x128, .f32⟩
  | 97 => ⟨S2048x64, .f32⟩
  | 98 => ⟨S2048x1x64, .f32⟩
  | 99 => ⟨S2048x64, .f32⟩
  | 100 => ⟨S2048x1x64, .f32⟩
  | 101 => ⟨S32x2048x8x64x2, .f32⟩
  | 102 => ⟨S32x2048x8x64x1, .f32⟩
  | 103 => ⟨S32x2048x8x64, .f32⟩
  | 104 => ⟨S32x2048x8x64x1, .f32⟩
  | 105 => ⟨S32x2048x8x64, .f32⟩
  | 106 => ⟨S1x2048x1x64, .f32⟩
  | 107 => ⟨S32x2048x8x64, .f32⟩
  | 108 => ⟨S32x2048x8x64, .f32⟩
  | 109 => ⟨S1x2048x1x64, .f32⟩
  | 110 => ⟨S32x2048x8x64, .f32⟩
  | 111 => ⟨S32x2048x8x64, .f32⟩
  | 112 => ⟨S32x2048x8x64, .f32⟩
  | 113 => ⟨S1x2048x1x64, .f32⟩
  | 114 => ⟨S32x2048x8x64, .f32⟩
  | 115 => ⟨S32x2048x8x64, .f32⟩
  | 116 => ⟨S1x2048x1x64, .f32⟩
  | 117 => ⟨S32x2048x8x64, .f32⟩
  | 118 => ⟨S32x2048x8x64, .f32⟩
  | 119 => ⟨S32x2048x8x64, .f32⟩
  | 120 => ⟨S32x2048x8x64x1, .f32⟩
  | 121 => ⟨S32x2048x8x64x1, .f32⟩
  | 122 => ⟨S32x2048x8x64x2, .f32⟩
  | 123 => ⟨S32x2048x8x128, .f32⟩
  | 124 => ⟨S32x2048x2x128, .f32⟩
  | 125 => ⟨S32x2048x2x128, .f32⟩
  | 126 => ⟨S_, .f32⟩
  | 127 => ⟨S32x2048x2, .f32⟩
  | _ => ⟨S32x2048x1024, .f32⟩

abbrev hbmTy0_1 (i : Nat) : BufTy := match i % 128 with
  | 0 => ⟨S32x2048x2x1, .f32⟩
  | 1 => ⟨S_, .f32⟩
  | 2 => ⟨S32x2048x2x1, .f32⟩
  | 3 => ⟨S32x2048x2x1, .f32⟩
  | 4 => ⟨S_, .f32⟩
  | 5 => ⟨S32x2048x2x1, .f32⟩
  | 6 => ⟨S32x2048x2x1, .f32⟩
  | 7 => ⟨S32x2048x2x1, .f32⟩
  | 8 => ⟨S32x2048x2x128, .f32⟩
  | 9 => ⟨S32x2048x2x128, .f32⟩
  | 10 => ⟨S1x1x1x128, .f32⟩
  | 11 => ⟨S32x2048x2x128, .f32⟩
  | 12 => ⟨S32x2048x2x128, .f32⟩
  | 13 => ⟨S2048x64, .f32⟩
  | 14 => ⟨S2048x1x64, .f32⟩
  | 15 => ⟨S2048x64, .f32⟩
  | 16 => ⟨S2048x1x64, .f32⟩
  | 17 => ⟨S32x2048x2x64x2, .f32⟩
  | 18 => ⟨S32x2048x2x64x1, .f32⟩
  | 19 => ⟨S32x2048x2x64, .f32⟩
  | 20 => ⟨S32x2048x2x64x1, .f32⟩
  | 21 => ⟨S32x2048x2x64, .f32⟩
  | 22 => ⟨S1x2048x1x64, .f32⟩
  | 23 => ⟨S32x2048x2x64, .f32⟩
  | 24 => ⟨S32x2048x2x64, .f32⟩
  | 25 => ⟨S1x2048x1x64, .f32⟩
  | 26 => ⟨S32x2048x2x64, .f32⟩
  | 27 => ⟨S32x2048x2x64, .f32⟩
  | 28 => ⟨S32x2048x2x64, .f32⟩
  | 29 => ⟨S1x2048x1x64, .f32⟩
  | 30 => ⟨S32x2048x2x64, .f32⟩
  | 31 => ⟨S32x2048x2x64, .f32⟩
  | 32 => ⟨S1x2048x1x64, .f32⟩
  | 33 => ⟨S32x2048x2x64, .f32⟩
  | 34 => ⟨S32x2048x2x64, .f32⟩
  | 35 => ⟨S32x2048x2x64, .f32⟩
  | 36 => ⟨S32x2048x2x64x1, .f32⟩
  | 37 => ⟨S32x2048x2x64x1, .f32⟩
  | 38 => ⟨S32x2048x2x64x2, .f32⟩
  | 39 => ⟨S32x2048x2x128, .f32⟩
  | 40 => ⟨S32x2048x2x128, .f32⟩
  | 41 => ⟨S65536x1024, .f32⟩
  | 42 => ⟨S32x2048x8x64x2, .f32⟩
  | 43 => ⟨S32x2048x8x2x64, .f32⟩
  | 44 => ⟨S_, .f32⟩
  | 45 => ⟨S_, .f32⟩
  | 46 => ⟨S32x2048x8x2x64, .f32⟩
  | 47 => ⟨S32x2048x8x2x64, .f32⟩
  | 48 => ⟨S_, .f32⟩
  | 49 => ⟨S_, .f32⟩
  | 50 => ⟨S32x2048x8x2x64, .f32⟩
  | 51 => ⟨S32x2048x8x2x64, .f32⟩
  | 52 => ⟨S65536x1024, .f32⟩
  | 53 => ⟨S65536x1024, .bf16⟩
  | 54 => ⟨S32x2048x2x64x2, .f32⟩
  | 55 => ⟨S32x2048x2x2x64, .f32⟩
  | 56 => ⟨S65536x256, .f32⟩
  | 57 => ⟨S65536x256, .bf16⟩
  | 58 => ⟨S_, .f32⟩
  | 59 => ⟨S32x2048x2x128, .f32⟩
  | 60 => ⟨S32x2048x2x256, .f32⟩
  | 61 => ⟨S65536x512, .f32⟩
  | 62 => ⟨S65536x512, .bf16⟩
  | 63 => ⟨S65536x1024, .f32⟩
  | 64 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩
abbrev main_cst_11 : Ref sig .tc := ⟨.hbm, 129, rfl⟩
abbrev main_v108 : Ref sig .tc := ⟨.hbm, 130, rfl⟩
abbrev main_v109 : Ref sig .tc := ⟨.hbm, 131, rfl⟩
abbrev main_cst_12 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_cst_13 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_cst_14 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_15 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩

abbrev nD : Nat := 1
abbrev τ : Topo := Topo.v7x

variable {F : FTy → Type} [FloatOps F]
-- ==== Retin.lean ====
abbrev S32x2048x1024 : Shape := ⟨3, ![32, 2048, 1024]⟩
abbrev S1024x4096 : Shape := ⟨2, ![1024, 4096]⟩
abbrev S65536x1024 : Shape := ⟨2, ![65536, 1024]⟩
abbrev S1024x2048 : Shape := ⟨2, ![1024, 2048]⟩
abbrev S65536x2048 : Shape := ⟨2, ![65536, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S65536x1024, .f32⟩
  | .hbm, ⟨3, _⟩ => ⟨S65536x1024, .bf16⟩
  | .hbm, ⟨4, _⟩ => ⟨S1024x2048, .f32⟩
  | .hbm, ⟨5, _⟩ => ⟨S1024x2048, .bf16⟩
  | .hbm, ⟨6, _⟩ => ⟨S65536x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RetinIdeal.lean ====
abbrev S32x2048x1024 : Shape := ⟨3, ![32, 2048, 1024]⟩
abbrev S1024x4096 : Shape := ⟨2, ![1024, 4096]⟩
abbrev S65536x1024 : Shape := ⟨2, ![65536, 1024]⟩
abbrev S1024x2048 : Shape := ⟨2, ![1024, 2048]⟩
abbrev S65536x2048 : Shape := ⟨2, ![65536, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S65536x1024, .f32⟩
  | .hbm, ⟨3, _⟩ => ⟨S65536x1024, .bf16⟩
  | .hbm, ⟨4, _⟩ => ⟨S1024x2048, .f32⟩
  | .hbm, ⟨5, _⟩ => ⟨S1024x2048, .bf16⟩
  | .hbm, ⟨6, _⟩ => ⟨S65536x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RetinReferenceIdeal.lean ====
abbrev S32x2048x1024 : Shape := ⟨3, ![32, 2048, 1024]⟩
abbrev S1024x4096 : Shape := ⟨2, ![1024, 4096]⟩
abbrev S32x2048x4096 : Shape := ⟨3, ![32, 2048, 4096]⟩
abbrev S32x2048x2048 : Shape := ⟨3, ![32, 2048, 2048]⟩
abbrev S65536x2048 : Shape := ⟨2, ![65536, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S32x2048x4096, .f32⟩
  | .hbm, ⟨3, _⟩ => ⟨S32x2048x2048, .f32⟩
  | .hbm, ⟨4, _⟩ => ⟨S65536x2048, .f32⟩
  | .hbm, ⟨5, _⟩ => ⟨S65536x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Retinc.lean ====
abbrev S32x256x1024 : Shape := ⟨3, ![32, 256, 1024]⟩
abbrev S1024x4096 : Shape := ⟨2, ![1024, 4096]⟩
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S32x256x1024, .f32⟩
  | .hbm, ⟨1, _⟩ => ⟨S1024x4096, .f32⟩
  | .hbm, ⟨2, _⟩ => ⟨S8192x1024, .f32⟩
  | .hbm, ⟨3, _⟩ => ⟨S8192x1024, .bf16⟩
  | .hbm, ⟨4, _⟩ => ⟨S1024x2048, .f32⟩
  | .hbm, ⟨5, _⟩ => ⟨S1024x2048, .bf16⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RetincReferenceIdeal.lean ====
abbrev S32x256x1024 : Shape := ⟨3, ![32, 256, 1024]⟩
abbrev S1024x4096 : Shape := ⟨2, ![1024, 4096]⟩
abbrev S32x256x4096 : Shape := ⟨3, ![32, 256, 4096]⟩
abbrev S32x256x2048 : Shape := ⟨3, ![32, 256, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024x4096, .f32⟩
  | .hbm, ⟨2, _⟩ => ⟨S32x256x4096, .f32⟩
  | .hbm, ⟨3, _⟩ => ⟨S32x256x2048, .f32⟩
  | .hbm, ⟨4, _⟩ => ⟨S8192x2048, .f32⟩
  | .hbm, ⟨5, _⟩ => ⟨S8192x2048, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Softmax.lean ====
/-
  One row of attention, on the extended reals. The reference takes the softmax of a row of 2304 scores and weighs the
  values by it. The kernel holds the row in two parts, 256 scores of the context and 2048 of the latent tokens, each
  already divided by `log 2`: it takes the largest of both parts, the powers of two of the differences, and divides the
  weighted sum once by the sum of the powers. `row_eq` says that the two are one number when the scores are reals.
-/
module

public import Idealize.ShloMosaic.PureOps.Ideal
public import Idealize.ShloMosaic.Lib.IdealHost

@[expose] public section

noncomputable section

namespace Cert.Attention.Row

open Idealize.ShloMosaic

/-! ## The constants -/

theorem ofBits_ninf : Ideal.ofBits .f32 0xFF800000#32 = (⊥ : EReal) := by
  simp [Ideal.ofBits, Ideal.ieee]

theorem ofBits_two : Ideal.ofBits .f32 0x40000000#32 = ((2 : ℝ) : EReal) := by
  simp [Ideal.ofBits, Ideal.ieee, -EReal.coe_mul]; norm_num

/-- The reciprocal root of the head width, as both programs spell it, denotes a real; which one does not matter. -/
theorem ofBits_scale : ∃ r : ℝ, Ideal.ofBits .f32 0x3DB504F3#32 = (r : EReal) := by
  simp only [Ideal.ofBits, Ideal.ieee]
  rw [if_neg (by decide), if_neg (by decide)]
  exact ⟨_, rfl⟩

/-! ## Sums -/

/-- A sum of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A nonnegative real factor goes into a sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h, ← ih,
      EReal.right_distrib_of_nonneg_of_ne_top (EReal.coe_nonneg.2 hr) (EReal.coe_ne_top r)]

/-- A sum over a row is the sum over its first part plus the sum over the rest. -/
theorem sum_split {n a b : ℕ} (h : n = a + b) {M : Type} [AddCommMonoid M] (f : Fin n → M) :
    ∑ t, f t = ∑ i : Fin a, f ⟨i.val, by omega⟩ + ∑ i : Fin b, f ⟨a + i.val, by omega⟩ := by
  subst h
  exact Fin.sum_univ_add f

/-! ## The row -/

/-- The reference's row: the values weighed by the softmax of the scores. -/
def softRow {n : ℕ} (s v : Fin n → EReal) : EReal :=
  ∑ t, v t * Ideal.div (Ideal.exp (s t - max ⊥ (Finset.univ.fold max ⊥ s))) (∑ u, Ideal.exp (s u - max ⊥ (Finset.univ.fold max ⊥ s)))

/-- The kernel's row in its two parts, `o` and `p` the columns that give the denominator. -/
def splitRow {a b : ℕ} (s : Fin a → EReal) (t : Fin b → EReal) (v o : Fin a → EReal) (w p : Fin b → EReal) : EReal :=
  Ideal.div
    (∑ i, Ideal.exp2 (s i - max (Finset.univ.fold max ⊥ s) (Finset.univ.fold max ⊥ t)) * v i
      + ∑ i, Ideal.exp2 (t i - max (Finset.univ.fold max ⊥ s) (Finset.univ.fold max ⊥ t)) * w i)
    (∑ i, Ideal.exp2 (s i - max (Finset.univ.fold max ⊥ s) (Finset.univ.fold max ⊥ t)) * o i
      + ∑ i, Ideal.exp2 (t i - max (Finset.univ.fold max ⊥ s) (Finset.univ.fold max ⊥ t)) * p i)

theorem fold_max {n : ℕ} (f : Fin n → EReal) : Finset.univ.fold max ⊥ f = Finset.univ.sup f := rfl

/-- A row of reals has a largest one. -/
theorem exists_top {n : ℕ} (hn : 0 < n) (s : Fin n → ℝ) :
    ∃ t, (∀ u, s u ≤ s t) ∧ Finset.univ.sup (fun u => ((s u : ℝ) : EReal)) = ((s t : ℝ) : EReal) := by
  haveI : Nonempty (Fin n) := ⟨⟨0, hn⟩⟩
  obtain ⟨t, -, ht⟩ := Finset.exists_max_image Finset.univ s Finset.univ_nonempty
  refine ⟨t, fun u => ht u (Finset.mem_univ _), le_antisymm ?_ ?_⟩
  · exact Finset.sup_le fun u hu => EReal.coe_le_coe_iff.2 (ht u hu)
  · exact Finset.le_sup (f := fun u => ((s u : ℝ) : EReal)) (Finset.mem_univ t)

/-- A power of two of a difference divided by `log 2` is the exponential of the difference. -/
theorem exp2_scaled (x y : ℝ) :
    Ideal.exp2 (((x / Real.log 2 : ℝ) : EReal) - ((y / Real.log 2 : ℝ) : EReal)) = ((Real.exp (x - y) : ℝ) : EReal) := by
  rw [← EReal.coe_sub, Ideal.exp2_coe]
  refine congrArg _ ?_
  have h : Real.log 2 ≠ 0 := (Real.log_pos (by norm_num)).ne'
  change (2 : ℝ) ^ (x / Real.log 2 - y / Real.log 2) = _
  rw [Real.rpow_def_of_pos (by norm_num)]
  congr 1
  field_simp

/-- The largest score of the two parts, divided by `log 2`. -/
theorem split_top {n a b : ℕ} (h : n = a + b) (s : Fin n → ℝ) (t : Fin n) (ht : ∀ u, s u ≤ s t)
    (sc : Fin a → EReal) (sx : Fin b → EReal)
    (hc : ∀ i : Fin a, sc i = ((s ⟨i.val, by omega⟩ / Real.log 2 : ℝ) : EReal))
    (hx : ∀ i : Fin b, sx i = ((s ⟨a + i.val, by omega⟩ / Real.log 2 : ℝ) : EReal)) :
    max (Finset.univ.sup sc) (Finset.univ.sup sx) = ((s t / Real.log 2 : ℝ) : EReal) := by
  have hl : 0 ≤ Real.log 2 := (Real.log_pos (by norm_num)).le
  refine le_antisymm (max_le ?_ ?_) ?_
  · refine Finset.sup_le fun i _ => ?_
    rw [hc]; exact EReal.coe_le_coe_iff.2 (div_le_div_of_nonneg_right (ht _) hl)
  · refine Finset.sup_le fun i _ => ?_
    rw [hx]; exact EReal.coe_le_coe_iff.2 (div_le_div_of_nonneg_right (ht _) hl)
  · by_cases hta : t.val < a
    · exact le_max_of_le_left ((hc ⟨t.val, hta⟩).symm.le.trans (Finset.le_sup (f := sc) (Finset.mem_univ _)))
    · refine le_max_of_le_right (le_trans ?_ (Finset.le_sup (f := sx) (Finset.mem_univ (⟨t.val - a, by omega⟩ : Fin b))))
      rw [hx]
      refine le_of_eq ?_
      congr 4
      exact Fin.ext (by simp only; omega)

/-- The kernel's row is the reference's, for real scores and any values. -/
theorem row_eq {n a b : ℕ} (h : n = a + b) (hn : 0 < n) (s : Fin n → ℝ) (v : Fin n → EReal)
    (sc : Fin a → EReal) (sx : Fin b → EReal) (vc oc : Fin a → EReal) (vx ox : Fin b → EReal)
    (hc : ∀ i : Fin a, sc i = ((s ⟨i.val, by omega⟩ / Real.log 2 : ℝ) : EReal))
    (hx : ∀ i : Fin b, sx i = ((s ⟨a + i.val, by omega⟩ / Real.log 2 : ℝ) : EReal))
    (hvc : ∀ i : Fin a, vc i = v ⟨i.val, by omega⟩) (hvx : ∀ i : Fin b, vx i = v ⟨a + i.val, by omega⟩)
    (hoc : ∀ i, oc i = 1) (hox : ∀ i, ox i = 1) :
    splitRow sc sx vc oc vx ox = softRow (fun t => ((s t : ℝ) : EReal)) v := by
  obtain ⟨t, ht, hs⟩ := exists_top hn s
  have hk := split_top h s t ht sc sx hc hx
  have hpos : 0 < ∑ u, Real.exp (s u - s t) :=
    Finset.sum_pos (fun u _ => Real.exp_pos _) ⟨t, Finset.mem_univ t⟩
  simp only [splitRow, softRow, fold_max, hs, hk, max_eq_right bot_le]
  simp only [hc, hx, hvc, hvx, hoc, hox, exp2_scaled, mul_one]
  simp only [← EReal.coe_sub, Ideal.exp_coe, coe_sum]
  rw [← EReal.coe_add, ← sum_split h fun u => Real.exp (s u - s t), ← sum_split h fun u => ((Real.exp (s u - s t) : ℝ) : EReal) * v u,
    Ideal.div_coe hpos.ne', sum_mul_coe _ _ (one_div_nonneg.2 hpos.le)]
  refine Finset.sum_congr rfl fun u _ => ?_
  rw [Ideal.div_coe hpos.ne', mul_comm ((Real.exp _ : ℝ) : EReal), mul_assoc]

/-- A score of the kernel is the reference's divided by `log 2`: the queries carry the scale and the division. -/
theorem score_eq {n : ℕ} (q k : Fin n → ℝ) (c : ℝ) :
    ∑ d, Ideal.div (((q d : ℝ) : EReal) * (c : EReal)) ((Real.log 2 : ℝ) : EReal) * ((k d : ℝ) : EReal)
      = (((∑ d, k d * q d) * c / Real.log 2 : ℝ) : EReal) := by
  have h : Real.log 2 ≠ 0 := (Real.log_pos (by norm_num)).ne'
  simp only [Ideal.div_coe h, ← EReal.coe_mul, coe_sum]
  refine congrArg _ ?_
  rw [Finset.sum_mul, Finset.sum_div]
  exact Finset.sum_congr rfl fun d _ => by ring

/-- The reference's score as a real. -/
theorem score_coe {n : ℕ} (q k : Fin n → ℝ) (c : ℝ) :
    (∑ d, ((k d : ℝ) : EReal) * ((q d : ℝ) : EReal)) * (c : EReal) = (((∑ d, k d * q d) * c : ℝ) : EReal) := by
  simp only [← EReal.coe_mul, coe_sum]

end Cert.Attention.Row

end
-- ==== Proof.Head.lean ====
/-
  One head of the kernel, at an index of its 1024 × 128 block. The kernel spells the head eight times, its statements cut at
  other places each time; every spelling is the one vector `headVec` of the head's own slices.
-/
module

public import proofs.«01_k».proof.Proof.Gen.KernelIdeal.Skeleton
public import proofs.«01_k».proof.Proof.Softmax
public import Idealize.ShloMosaic.Lib.Pointwise

@[expose] public section

set_option maxRecDepth 16384

noncomputable section

open Idealize.ShloMosaic Idealize.ShloMosaic.TcCoe Idealize.SL.Sem

namespace Cert.KernelIdeal.Attention

open Cert.KernelIdeal Cert.KernelIdeal.Gen

/-- A head of the kernel, from its queries, keys (context, latent), values beside ones (context, latent) and gate path. -/
def headVec (q : FVec Ideal S1024x128 .bf16) (kc : FVec Ideal S256x128 .bf16) (kx : FVec Ideal S2048x128 .bf16)
    (va : FVec Ideal S256x256 .bf16) (vx : FVec Ideal S2048x256 .bf16) (g : FVec Ideal S1024x128 .bf16) :
    FVec Ideal S1024x128 .bf16 :=
  k0_pay46 (k0_pay3 q kc) (k0_pay4 q kx) va vx g

/-- A head at an index: the gate times the row of attention in its two parts. -/
theorem head_at (q : FVec Ideal S1024x128 .bf16) (kc : FVec Ideal S256x128 .bf16) (kx : FVec Ideal S2048x128 .bf16)
    (va : FVec Ideal S256x256 .bf16) (vx : FVec Ideal S2048x256 .bf16) (g : FVec Ideal S1024x128 .bf16) (r : Fin 1024) (d : Fin 128) :
    headVec q kc kx va vx g (ix2 r d)
      = g (ix2 r d) * Ideal.div 1 (1 + Ideal.exp (-g (ix2 r d)))
        * Cert.Attention.Row.splitRow (fun i => ∑ e, q (ix2 r e) * kc (ix2 i e)) (fun i => ∑ e, q (ix2 r e) * kx (ix2 i e))
            (fun i => va (ix2 i ⟨d.val, by omega⟩)) (fun i => va (ix2 i ⟨128 + d.val, by omega⟩))
            (fun i => vx (ix2 i ⟨d.val, by omega⟩)) (fun i => vx (ix2 i ⟨128 + d.val, by omega⟩)) := by
  unfold headVec
  pointwise [k0_pay46]
  pointwise [k0_pay3, k0_pay4, k0_pay2]
  simp only [Cert.Attention.Row.splitRow, ← Cert.Attention.Row.ofBits_ninf, zero_sub]
  rfl

end Cert.KernelIdeal.Attention

end
-- ==== Proof.Spellings.lean ====
/-
  The spellings of a head in the kernel's payloads: each is `headVec` of the head's slices.
-/
module

public import proofs.«01_k».proof.Proof.Head

@[expose] public section

set_option maxRecDepth 16384

noncomputable section

open Idealize.ShloMosaic Idealize.ShloMosaic.TcCoe Idealize.SL.Sem

namespace Cert.KernelIdeal.Attention

open Cert.KernelIdeal Cert.KernelIdeal.Gen

variable (q : FVec Ideal S1024x128 .bf16) (kc : FVec Ideal S256x128 .bf16) (kx : FVec Ideal S2048x128 .bf16)
  (va : FVec Ideal S256x256 .bf16) (vx : FVec Ideal S2048x256 .bf16) (g : FVec Ideal S1024x128 .bf16)

theorem head0_eq : k0_pay12 (k0_pay9 q kc kx) (k0_pay10 q kc kx va) (k0_pay11 vx) (constant S1024x256 .f32 0x00000000#32) g
    = headVec q kc kx va vx g := rfl

theorem head1_eq : k0_pay19 (k0_pay17 (k0_pay6 q kc) (k0_pay7 q kx)) (k0_pay18 (k0_pay6 q kc) (k0_pay7 q kx) va) vx g
    = headVec q kc kx va vx g := rfl

theorem head2_eq : k0_pay26 (k0_pay24 (k0_pay14 q kc) (k0_pay15 q kx)) (k0_pay25 (k0_pay14 q kc) (k0_pay15 q kx)) va vx g
    = headVec q kc kx va vx g := rfl

theorem head3_eq : k0_pay32 (k0_pay22 q kx) (k0_pay30 (k0_pay21 q kc) (k0_pay22 q kx)) (k0_pay31 (k0_pay21 q kc) (k0_pay22 q kx)) va vx g
    = headVec q kc kx va vx g := rfl

theorem head4_eq : k0_pay38 (k0_pay28 q kc) (k0_pay29 q kx) (k0_pay36 (k0_pay28 q kc)) (k0_pay37 (k0_pay29 q kx)) va vx g
    = headVec q kc kx va vx g := rfl

theorem head5_eq : k0_pay42 (k0_pay34 q kc) (k0_pay35 q kx) va vx g = headVec q kc kx va vx g := rfl

theorem head6_eq : k0_pay46 (k0_pay40 q kc) (k0_pay41 q kx) va vx g = headVec q kc kx va vx g := rfl

/-- The heads side by side, through the output projection. -/
def projVec (H : Fin 8 → FVec Ideal S1024x128 .bf16) (w : FVec Ideal S1024x1024 .bf16) : FVec Ideal S1024x1024 .f32 :=
  matmul dot_S1024x1024_S1024x1024_S1024x1024_1_0_0_1_n_n none
    (concatenate S1024x1024 1 [⟨S1024x128, H 0⟩, ⟨S1024x128, H 1⟩, ⟨S1024x128, H 2⟩, ⟨S1024x128, H 3⟩, ⟨S1024x128, H 4⟩,
      ⟨S1024x128, H 5⟩, ⟨S1024x128, H 6⟩, ⟨S1024x128, H 7⟩]
      concatenates_S1024x128_S1024x128_S1024x128_S1024x128_S1024x128_S1024x128_S1024x128_S1024x128_S1024x1024_d1)
    (shapeCast S1024x1024 w shapeCasts_S1024x1024_S1024x1024) (constant S1024x1024 .f32 0x00000000#32)

/-- The last head is spelled within the projection. -/
theorem proj_eq (h0 h1 h2 h3 h4 h5 h6 : FVec Ideal S1024x128 .bf16) (w : FVec Ideal S1024x1024 .bf16) :
    k0_pay48 h0 h1 h2 h3 h4 h5 (k0_pay44 q kc) (k0_pay45 (k0_pay43 q) kx) h6 (k0_pay47 (k0_pay43 q) (k0_pay44 q kc) kx) va vx g w
      = projVec ![h0, h1, h2, h3, h4, h5, h6, headVec q kc kx va vx g] w := rfl

end Cert.KernelIdeal.Attention

end
-- ==== Proof.Block.lean ====
/-
  What one point of the grid leaves in its 1024 × 1024 block of the result, at an index, from the point's operand blocks:
  the eight heads read their own columns of the blocks, the heads side by side go through the output projection, and the
  gated residual through the norm.
-/
module

public import proofs.«01_k».proof.Proof.Spellings
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Attention

open Cert.KernelIdeal Cert.KernelIdeal.Gen

/-- A block of columns loaded, at an index. -/
theorem ld_cols {A B a b o : ℕ} (x : FVec Ideal ⟨2, ![A, B]⟩ .bf16)
    (inb : ∀ i, (![0, o] : Fin 2 → ℕ) i + (![a, b] : Fin 2 → ℕ) i ≤ (⟨2, ![A, B]⟩ : Shape).size i) (r : Fin a) (d : Fin b) :
    View.ld (Val := Elt Ideal) (e' := .bf16) x (Rect.unit (s := ⟨2, ![A, B]⟩) ![0, o] ![a, b] inb) (ix2 r d)
      = x (ix2 ⟨r.val, by have h : 0 + a ≤ A := inb 0; omega⟩ ⟨o + d.val, by have h : o + b ≤ B := inb 1; omega⟩) := by
  refine congrArg x (funext fun i => Fin.ext ?_)
  match i with
  | ⟨0, _⟩ => show 0 + 1 * r.val = r.val; omega
  | ⟨1, _⟩ => show o + 1 * d.val = o + d.val; omega

/-- The attention row of head `h` at a row of the block and a column of the head, from the operand blocks. -/
def blockRow (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16) (h : Fin 8) (r : Fin 1024) (d : Fin 128) : EReal :=
  x5 (ix2 r ⟨128 * h.val + d.val, by omega⟩) * Ideal.div 1 (1 + Ideal.exp (-x5 (ix2 r ⟨128 * h.val + d.val, by omega⟩)))
    * Cert.Attention.Row.splitRow
      (fun i => ∑ e : Fin 128, x0 (ix2 r ⟨128 * h.val + e.val, by omega⟩) * x1 (ix2 i ⟨128 * (h.val / 4) + e.val, by omega⟩))
      (fun i => ∑ e : Fin 128, x0 (ix2 r ⟨128 * h.val + e.val, by omega⟩) * x3 (ix2 i ⟨128 * (h.val / 4) + e.val, by omega⟩))
      (fun i => x2 (ix2 i ⟨256 * (h.val / 4) + d.val, by omega⟩)) (fun i => x2 (ix2 i ⟨256 * (h.val / 4) + (128 + d.val), by omega⟩))
      (fun i => x4 (ix2 i ⟨256 * (h.val / 4) + d.val, by omega⟩)) (fun i => x4 (ix2 i ⟨256 * (h.val / 4) + (128 + d.val), by omega⟩))

/-- The eight heads of a point, each from its own columns. -/
def blockHeads (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16) : Fin 8 → FVec Ideal S1024x128 .bf16 :=
  ![headVec (View.ld (Val := Elt Ideal) (e' := .bf16) x0 r0_0) (View.ld (Val := Elt Ideal) (e' := .bf16) x1 r0_1) (View.ld (Val := Elt Ideal) (e' := .bf16) x3 r0_2) (View.ld (Val := Elt Ideal) (e' := .bf16) x2 r0_4) (View.ld (Val := Elt Ideal) (e' := .bf16) x4 r0_5) (View.ld (Val := Elt Ideal) (e' := .bf16) x5 r0_0),
    headVec (View.ld (Val := Elt Ideal) (e' := .bf16) x0 r0_3) (View.ld (Val := Elt Ideal) (e' := .bf16) x1 r0_1) (View.ld (Val := Elt Ideal) (e' := .bf16) x3 r0_2) (View.ld (Val := Elt Ideal) (e' := .bf16) x2 r0_4) (View.ld (Val := Elt Ideal) (e' := .bf16) x4 r0_5) (View.ld (Val := Elt Ideal) (e' := .bf16) x5 r0_3),
    headVec (View.ld (Val := Elt Ideal) (e' := .bf16) x0 r0_6) (View.ld (Val := Elt Ideal) (e' := .bf16) x1 r0_1) (View.ld (Val := Elt Ideal) (e' := .bf16) x3 r0_2) (View.ld (Val := Elt Ideal) (e' := .bf16) x2 r0_4) (View.ld (Val := Elt Ideal) (e' := .bf16) x4 r0_5) (View.ld (Val := Elt Ideal) (e' := .bf16) x5 r0_6),
    headVec (View.ld (Val := Elt Ideal) (e' := .bf16) x0 r0_7) (View.ld (Val := Elt Ideal) (e' := .bf16) x1 r0_1) (View.ld (Val := Elt Ideal) (e' := .bf16) x3 r0_2) (View.ld (Val := Elt Ideal) (e' := .bf16) x2 r0_4) (View.ld (Val := Elt Ideal) (e' := .bf16) x4 r0_5) (View.ld (Val := Elt Ideal) (e' := .bf16) x5 r0_7),
    headVec (View.ld (Val := Elt Ideal) (e' := .bf16) x0 r0_8) (View.ld (Val := Elt Ideal) (e' := .bf16) x1 r0_9) (View.ld (Val := Elt Ideal) (e' := .bf16) x3 r0_10) (View.ld (Val := Elt Ideal) (e' := .bf16) x2 r0_12) (View.ld (Val := Elt Ideal) (e' := .bf16) x4 r0_13) (View.ld (Val := Elt Ideal) (e' := .bf16) x5 r0_8),
    headVec (View.ld (Val := Elt Ideal) (e' := .bf16) x0 r0_11) (View.ld (Val := Elt Ideal) (e' := .bf16) x1 r0_9) (View.ld (Val := Elt Ideal) (e' := .bf16) x3 r0_10) (View.ld (Val := Elt Ideal) (e' := .bf16) x2 r0_12) (View.ld (Val := Elt Ideal) (e' := .bf16) x4 r0_13) (View.ld (Val := Elt Ideal) (e' := .bf16) x5 r0_11),
    headVec (View.ld (Val := Elt Ideal) (e' := .bf16) x0 r0_14) (View.ld (Val := Elt Ideal) (e' := .bf16) x1 r0_9) (View.ld (Val := Elt Ideal) (e' := .bf16) x3 r0_10) (View.ld (Val := Elt Ideal) (e' := .bf16) x2 r0_12) (View.ld (Val := Elt Ideal) (e' := .bf16) x4 r0_13) (View.ld (Val := Elt Ideal) (e' := .bf16) x5 r0_14),
    headVec (View.ld (Val := Elt Ideal) (e' := .bf16) x0 r0_15) (View.ld (Val := Elt Ideal) (e' := .bf16) x1 r0_9) (View.ld (Val := Elt Ideal) (e' := .bf16) x3 r0_10) (View.ld (Val := Elt Ideal) (e' := .bf16) x2 r0_12) (View.ld (Val := Elt Ideal) (e' := .bf16) x4 r0_13) (View.ld (Val := Elt Ideal) (e' := .bf16) x5 r0_15)]

/-- A head whose columns begin where head `h`'s do is `blockRow h`. -/
theorem head_ld (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16) (h : Fin 8) (o p v : ℕ) (ho : o = 128 * h.val) (hp : p = 128 * (h.val / 4)) (hv : v = 256 * (h.val / 4))
    (i0 : ∀ i, (![0, o] : Fin 2 → ℕ) i + S1024x128.size i ≤ S1024x1024.size i)
    (i1 : ∀ i, (![0, p] : Fin 2 → ℕ) i + S256x128.size i ≤ S256x256.size i)
    (i3 : ∀ i, (![0, p] : Fin 2 → ℕ) i + S2048x128.size i ≤ S2048x256.size i)
    (i2 : ∀ i, (![0, v] : Fin 2 → ℕ) i + S256x256.size i ≤ S256x512.size i)
    (i4 : ∀ i, (![0, v] : Fin 2 → ℕ) i + S2048x256.size i ≤ S2048x512.size i) (r : Fin 1024) (d : Fin 128) :
    headVec (View.ld (Val := Elt Ideal) (e' := .bf16) x0 (Rect.unit (s := S1024x1024) ![0, o] S1024x128.size i0))
        (View.ld (Val := Elt Ideal) (e' := .bf16) x1 (Rect.unit (s := S256x256) ![0, p] S256x128.size i1))
        (View.ld (Val := Elt Ideal) (e' := .bf16) x3 (Rect.unit (s := S2048x256) ![0, p] S2048x128.size i3))
        (View.ld (Val := Elt Ideal) (e' := .bf16) x2 (Rect.unit (s := S256x512) ![0, v] S256x256.size i2))
        (View.ld (Val := Elt Ideal) (e' := .bf16) x4 (Rect.unit (s := S2048x512) ![0, v] S2048x256.size i4))
        (View.ld (Val := Elt Ideal) (e' := .bf16) x5 (Rect.unit (s := S1024x1024) ![0, o] S1024x128.size i0)) (ix2 r d)
      = blockRow x0 x1 x2 x3 x4 x5 h r d := by
  subst ho hp hv
  rw [head_at]
  have e0 (e : Fin 128) := ld_cols x0 i0 r e
  have e5 (e : Fin 128) := ld_cols x5 i0 r e
  have e1 (i : Fin 256) (e : Fin 128) := ld_cols x1 i1 i e
  have e3 (i : Fin 2048) (e : Fin 128) := ld_cols x3 i3 i e
  have e2 (i : Fin 256) (e : Fin 256) := ld_cols x2 i2 i e
  have e4 (i : Fin 2048) (e : Fin 256) := ld_cols x4 i4 i e
  simp only [e0, e1, e2, e3, e4, e5, blockRow]

theorem blockHeads_at (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16) (h : Fin 8) (r : Fin 1024) (d : Fin 128) :
    blockHeads x0 x1 x2 x3 x4 x5 h (ix2 r d) = blockRow x0 x1 x2 x3 x4 x5 h r d := by
  match h with
  | ⟨0, _⟩ => exact head_ld x0 x1 x2 x3 x4 x5 0 0 0 0 rfl rfl rfl _ _ _ _ _ r d
  | ⟨1, _⟩ => exact head_ld x0 x1 x2 x3 x4 x5 1 128 0 0 rfl rfl rfl _ _ _ _ _ r d
  | ⟨2, _⟩ => exact head_ld x0 x1 x2 x3 x4 x5 2 256 0 0 rfl rfl rfl _ _ _ _ _ r d
  | ⟨3, _⟩ => exact head_ld x0 x1 x2 x3 x4 x5 3 384 0 0 rfl rfl rfl _ _ _ _ _ r d
  | ⟨4, _⟩ => exact head_ld x0 x1 x2 x3 x4 x5 4 512 128 256 rfl rfl rfl _ _ _ _ _ r d
  | ⟨5, _⟩ => exact head_ld x0 x1 x2 x3 x4 x5 5 640 128 256 rfl rfl rfl _ _ _ _ _ r d
  | ⟨6, _⟩ => exact head_ld x0 x1 x2 x3 x4 x5 6 768 128 256 rfl rfl rfl _ _ _ _ _ r d
  | ⟨7, _⟩ => exact head_ld x0 x1 x2 x3 x4 x5 7 896 128 256 rfl rfl rfl _ _ _ _ _ r d

/-- Column `c` of head `k` is column `e` of the heads side by side. -/
theorem at_head (H : Fin 8 → FVec Ideal S1024x128 .bf16) (r : Fin 1024) (e : Fin 1024) (k : Fin 8) (c : Fin 128)
    (h : e.val = 128 * k.val + c.val) :
    H k (ix2 r c) = H ⟨e.val / 128, by omega⟩ (ix2 r ⟨e.val % 128, by omega⟩) := by
  have hk : (⟨e.val / 128, by omega⟩ : Fin 8) = k := Fin.ext (by show e.val / 128 = k.val; omega)
  have hc : (⟨e.val % 128, by omega⟩ : Fin 128) = c := Fin.ext (by show e.val % 128 = c.val; omega)
  rw [hk, hc]

/-- The heads side by side through the projection, at an index. -/
theorem projVec_at (H : Fin 8 → FVec Ideal S1024x128 .bf16) (w : FVec Ideal S1024x1024 .bf16) (r n : Fin 1024) :
    projVec H w (ix2 r n) = ∑ e : Fin 1024, H ⟨e.val / 128, by omega⟩ (ix2 r ⟨e.val % 128, by omega⟩) * w (ix2 e n) := by
  pointwise [projVec]
  refine Finset.sum_congr rfl fun e _ => ?_
  congr 1
  split_ifs <;> refine at_head H r e _ _ ?_ <;> simp <;> omega

/-- The gated residual of a point at an index. -/
def blockResidual (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16)
    (x6 : FVec Ideal S1024x1024 .f32) (x7 : FVec Ideal S1x1x1x3072 .f32) (x8 : FVec Ideal S1024x1024 .bf16) (x9 : FVec Ideal S1x1024 .f32) (r n : Fin 1024) : EReal :=
  x6 (ix2 r n) + x7 (ix4 0 0 0 ⟨2048 + n.val, by omega⟩)
    * ∑ e : Fin 1024, blockRow x0 x1 x2 x3 x4 x5 ⟨e.val / 128, by omega⟩ r ⟨e.val % 128, by omega⟩ * x8 (ix2 e n)

/-- The last payload at an index: the gated residual through the norm. -/
theorem tail_at (y x gt : FVec Ideal S1024x1024 .f32) (fg : FVec Ideal S1x1024 .f32) (r n : Fin 1024) :
    k0_pay1 y x gt fg (ix2 r n)
      = (x (ix2 r n) + gt (ix2 r n) * y (ix2 r n))
        * Ideal.rsqrt (Ideal.div (∑ u, (x (ix2 r u) + gt (ix2 r u) * y (ix2 r u)) * (x (ix2 r u) + gt (ix2 r u) * y (ix2 r u)))
            (Ideal.ofBits .f32 0x44800000#32) + Ideal.ofBits .f32 0x358637BD#32)
        * fg (ix2 0 n) := by
  pointwise [k0_pay1]

theorem pay50_at (x : FVec Ideal S1x1x1x1024 .f32) (r n : Fin 1024) : k0_pay50 x (ix2 r n) = x (ix4 0 0 0 n) := by
  pointwise [k0_pay50]

theorem pay49_at (x : FVec Ideal S1024x1024 .f32) (r n : Fin 1024) : k0_pay49 x (ix2 r n) = x (ix2 r n) := by
  pointwise [k0_pay49]

/-- The modulation's gate third, as a point loads it. -/
def gateVec (x7 : FVec Ideal S1x1x1x3072 .f32) : FVec Ideal S1x1x1x1024 .f32 := View.ld (Val := Elt Ideal) (e' := .f32) x7 r0_17

theorem gateVec_at (x7 : FVec Ideal S1x1x1x3072 .f32) (n : Fin 1024) :
    gateVec x7 (ix4 0 0 0 n) = x7 (ix4 0 0 0 ⟨2048 + n.val, by omega⟩) := by
  refine congrArg x7 (funext fun i => Fin.ext ?_)
  match i with
  | ⟨0, _⟩ => rfl
  | ⟨1, _⟩ => rfl
  | ⟨2, _⟩ => rfl
  | ⟨3, _⟩ => show 2048 + 1 * n.val = 2048 + n.val; omega

/-- What the frame's block function says, in the vectors named here. -/
theorem out_eq (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16)
    (x6 : FVec Ideal S1024x1024 .f32) (x7 : FVec Ideal S1x1x1x3072 .f32) (x8 : FVec Ideal S1024x1024 .bf16) (x9 : FVec Ideal S1x1024 .f32) :
    out0_10 (F := Ideal) x0 x1 x2 x3 x4 x5 x6 x7 x8 x9
      = k0_pay1 (projVec (blockHeads x0 x1 x2 x3 x4 x5) x8) (k0_pay49 x6) (k0_pay50 (gateVec x7)) x9 := by
  unfold_out out0_10
  rw [View.canon_unit_zero (by decide)]
  rw [head0_eq, head1_eq, head2_eq, head3_eq, head4_eq, head5_eq, head6_eq, proj_eq]
  rw [View.ld_unit_zero (by decide), View.ld_unit_zero (by decide), View.ld_unit_zero (by decide)]
  rfl

/-- A point's block at an index. -/
theorem out_at (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16)
    (x6 : FVec Ideal S1024x1024 .f32) (x7 : FVec Ideal S1x1x1x3072 .f32) (x8 : FVec Ideal S1024x1024 .bf16) (x9 : FVec Ideal S1x1024 .f32) (r n : Fin 1024) :
    (out0_10 (F := Ideal) x0 x1 x2 x3 x4 x5 x6 x7 x8 x9 (ix2 r n) : EReal)
      = blockResidual x0 x1 x2 x3 x4 x5 x6 x7 x8 x9 r n
        * Ideal.rsqrt (Ideal.div (∑ u, blockResidual x0 x1 x2 x3 x4 x5 x6 x7 x8 x9 r u * blockResidual x0 x1 x2 x3 x4 x5 x6 x7 x8 x9 r u)
            (Ideal.ofBits .f32 0x44800000#32) + Ideal.ofBits .f32 0x358637BD#32)
        * x9 (ix2 0 n) := by
  rw [out_eq, tail_at]
  simp only [projVec_at, blockHeads_at, pay49_at, pay50_at, gateVec_at, blockResidual]

end Cert.KernelIdeal.Attention

end
-- ==== Proof.Ref.lean ====
/-
  The reference, read at an index. Its result term is cut into the steps of the mathematics (scores, softmax weights,
  heads, gated residual, norm), and each step is read at one index of its array.
-/
module
public import proofs.«01_k».proof.Proof.Gen.ReferenceIdeal.Run
public import Idealize.ShloMosaic.Lib.Pointwise
public import proofs.«01_k».proof.Proof.Softmax
@[expose] public section
set_option maxRecDepth 16384
noncomputable section
open Idealize.ShloMosaic Idealize.ShloMosaic.TcCoe Idealize.SL.Sem
namespace Cert.ReferenceIdeal.Attention
open Cert.ReferenceIdeal Cert.ReferenceIdeal.Gen

/-- The initial value of the row maximum, of the sums, and the one of the logistic function. -/
abbrev ninf : FVec Ideal S_ .f32 := constant S_ .f32 0xFF800000#32
abbrev zero : FVec Ideal S_ .f32 := constant S_ .f32 0x00000000#32
abbrev onev : FVec Ideal S_ .f32 := constant S_ .f32 0x3F800000#32

/-- The scaled scores of every query against the context's keys, then the latent keys. -/
def scores (q : FVec Ideal S32x2048x8x128 .f32) (k : FVec Ideal S32x2048x2x128 .f32) (kc : FVec Ideal S32x256x2x128 .f32) :
    FVec Ideal S32x2x4x2048x2304 .f32 :=
  mulf (transpose S32x2x4x2048x2304 [0, 1, 4, 3, 2]
      (Host.dotGeneral (F := Ideal) dot_S32x2304x2x128_S32x2048x2x4x128_S32x2x2304x2048x4_3_4_1_13_02_02 none
        (φ₁ := .f32) (Value.fn_main_v0 (F := Ideal) kc k)
        (shapeCast S32x2048x2x4x128 q shapeCasts_S32x2048x8x128_S32x2048x2x4x128))
      transposes_S32x2x2304x2048x4_S32x2x4x2048x2304_0_1_4_3_2)
    (broadcastInDim S32x2x4x2048x2304 ![] bcast_S_S32x2x4x2048x2304 (constant S_ .f32 0x3DB504F3#32))

/-- The largest score of every row. -/
def top (s : FVec Ideal S32x2x4x2048x2304 .f32) : FVec Ideal S32x2x4x2048 .f32 :=
  maximumf (broadcastInDim S32x2x4x2048 ![] bcast_S_S32x2x4x2048 ninf)
    (Host.reduce FloatOps.maximumf s ninf reducesTo_S32x2x4x2048x2304_S32x2x4x2048_d4 h_S_)

/-- A row's value put beside every key. -/
def spread (x : FVec Ideal S32x2x4x2048 .f32) : FVec Ideal S32x2x4x2048x2304 .f32 :=
  broadcastInDim S32x2x4x2048x2304 ![0, 1, 2, 3, 4] bcast_S32x2x4x2048x1_S32x2x4x2048x2304_0_1_2_3_4
    (broadcastInDim S32x2x4x2048x1 ![0, 1, 2, 3] bcast_S32x2x4x2048_S32x2x4x2048x1_0_1_2_3 x)

/-- The exponentials of the scores less their row's largest. -/
def exps (s : FVec Ideal S32x2x4x2048x2304 .f32) : FVec Ideal S32x2x4x2048x2304 .f32 := Host.exp (subf s (spread (top s)))

/-- The softmax of the scores over the keys. -/
def weights (s : FVec Ideal S32x2x4x2048x2304 .f32) : FVec Ideal S32x2x4x2048x2304 .f32 :=
  Host.divf (exps s) (spread (Host.reduceAdd (exps s) zero reducesTo_S32x2x4x2048x2304_S32x2x4x2048_d4 h_S_))

/-- The weighted values, head beside head. -/
def heads (p : FVec Ideal S32x2x4x2048x2304 .f32) (v : FVec Ideal S32x2048x2x128 .f32) (vc : FVec Ideal S32x256x2x128 .f32) :
    FVec Ideal S32x2048x1024 .f32 :=
  shapeCast S32x2048x1024 (transpose S32x2048x2x4x128 [0, 4, 1, 3, 2]
      (Host.dotGeneral (F := Ideal) dot_S32x2304x2x128_S32x2x4x2048x2304_S32x2x128x4x2048_1_4_3_23_02_01 none
        (φ₁ := .f32) (Value.fn_main_v1 (F := Ideal) vc v) p)
      transposes_S32x2x128x4x2048_S32x2048x2x4x128_0_4_1_3_2) shapeCasts_S32x2048x2x4x128_S32x2048x1024

/-- The gate, the output projection, the gated residual. -/
def residual (o g x : FVec Ideal S32x2048x1024 .f32) (mod : FVec Ideal S2x40x1x3072 .f32) (w : FVec Ideal S1024x1024 .f32) :
    FVec Ideal S32x2048x1024 .f32 :=
  addf x (mulf (broadcastInDim S32x2048x1024 ![0, 1, 2] bcast_S32x1x1024_S32x2048x1024_0_1_2
      (shapeCast S32x1x1024 (extractStridedSlice S1x32x1x1024 ![1, 0, 0, 2048] mod slices_S2x40x1x3072_S1x32x1x1024_1_0_0_2048)
        shapeCasts_S1x32x1x1024_S32x1x1024))
    (Host.dotGeneral (F := Ideal) dot_S32x2048x1024_S1024x1024_S32x2048x1024_2_0_01_1_n_n none
      (mulf (mulf g (Host.divf (broadcastInDim S32x2048x1024 ![] bcast_S_S32x2048x1024 onev)
        (addf (broadcastInDim S32x2048x1024 ![] bcast_S_S32x2048x1024 onev) (Host.exp (Host.negf g))))) o) w))

/-- The final norm. -/
def norm (z : FVec Ideal S32x2048x1024 .f32) (fg : FVec Ideal S1024 .f32) : FVec Ideal S65536x1024 .f32 :=
  shapeCast S65536x1024 (mulf (mulf z (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf z z) zero reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 fg))) shapeCasts_S32x2048x1024_S65536x1024

/-- The result of the reference's run, as its steps. -/
theorem res_eq (m : (ℓ : Loc nD τ sig) → Buf (Elt Ideal) ℓ) (c : Dev nD) :
    Value.res_out0 m c = norm (residual (heads (weights (scores (m ((c.tc : Thread nD τ).loc main_arg0)) (m ((c.tc : Thread nD τ).loc main_arg1)) (m ((c.tc : Thread nD τ).loc main_arg3))))
       (m ((c.tc : Thread nD τ).loc main_arg2)) (m ((c.tc : Thread nD τ).loc main_arg4)))
      (m ((c.tc : Thread nD τ).loc main_arg5)) (m ((c.tc : Thread nD τ).loc main_arg6)) (m ((c.tc : Thread nD τ).loc main_arg7)) (m ((c.tc : Thread nD τ).loc main_arg8)))
      (m ((c.tc : Thread nD τ).loc main_arg9)) := by
  unfold Value.res_out0 Value.res_main_v42 norm residual heads weights scores
  rfl

/-! ## The steps at an index -/

/-- A maximum over the last of five axes, at an index. -/
theorem reduce_max_last {n0 n1 n2 n3 n4 : ℕ} (x : FVec Ideal ⟨5, ![n0, n1, n2, n3, n4]⟩ .f32) (init : FVec Ideal S_ .f32)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    Host.reduce (FloatOps.maximumf (F := Ideal) (φ := .f32)) x init h hu (ix4 a b c d)
      = Finset.univ.fold max (init (Shape.Idx.first hu)) fun k : Fin n4 => x (ix5 a b c d k) := by
  rw [Host.reduce_eq_fold, Shape.ReducesTo.fold_fiber_r5_a4]
  rfl

theorem maximumf_at {t : Shape} (x y : FVec Ideal t .f32) (i : t.Idx) : maximumf x y i = max (x i) (y i) := rfl

theorem ninf_at (i : S_.Idx) : ninf i = (⊥ : EReal) := Cert.Attention.Row.ofBits_ninf

theorem splat_at (x : FVec Ideal S_ .f32) (hx : ∀ i, x i = (⊥ : EReal)) (i : S32x2x4x2048.Idx) :
    broadcastInDim S32x2x4x2048 ![] bcast_S_S32x2x4x2048 x i = (⊥ : EReal) := hx _

theorem top_at (S : FVec Ideal S32x2x4x2048x2304 .f32) (b : Fin 32) (j : Fin 2) (i : Fin 4) (s : Fin 2048) :
    top S (ix4 b j i s) = max ⊥ (Finset.univ.fold max ⊥ fun t : Fin 2304 => S (ix5 b j i s t)) := by
  unfold top
  rw [maximumf_at, splat_at _ ninf_at]
  exact congrArg (max (⊥ : EReal)) ((reduce_max_last S ninf _ _ b j i s).trans (by rw [ninf_at]))

theorem spread_at (x : FVec Ideal S32x2x4x2048 .f32) (b : Fin 32) (j : Fin 2) (i : Fin 4) (s : Fin 2048) (t : Fin 2304) :
    spread x (ix5 b j i s t) = x (ix4 b j i s) := by
  pointwise [spread]

theorem exps_at (S : FVec Ideal S32x2x4x2048x2304 .f32) (b : Fin 32) (j : Fin 2) (i : Fin 4) (s : Fin 2048) (t : Fin 2304) :
    exps S (ix5 b j i s t) = Ideal.exp (S (ix5 b j i s t) - top S (ix4 b j i s)) := by
  pointwise [exps, spread_at]

theorem weights_at (S : FVec Ideal S32x2x4x2048x2304 .f32) (b : Fin 32) (j : Fin 2) (i : Fin 4) (s : Fin 2048) (t : Fin 2304) :
    weights S (ix5 b j i s t) = Ideal.div (exps S (ix5 b j i s t)) (∑ u, exps S (ix5 b j i s u)) := by
  pointwise [weights, spread_at]

/-- The context's row, then the latent tokens', as the reference puts keys and values together. -/
def cat {α : Type} (c : Fin 256 → α) (x : Fin 2048 → α) (t : Fin 2304) : α :=
  if h : t.val < 256 then c ⟨t.val, h⟩ else x ⟨t.val - 256, by omega⟩

theorem scores_at (q : FVec Ideal S32x2048x8x128 .f32) (k : FVec Ideal S32x2048x2x128 .f32) (kc : FVec Ideal S32x256x2x128 .f32)
    (b : Fin 32) (j : Fin 2) (i : Fin 4) (s : Fin 2048) (t : Fin 2304) :
    scores q k kc (ix5 b j i s t)
      = (∑ d, cat (fun u => kc (ix4 b u j d)) (fun u => k (ix4 b u j d)) t * q (ix4 b s ⟨j.val * 4 + i.val, by omega⟩ d))
        * Ideal.ofBits .f32 0x3DB504F3#32 := by
  pointwise [scores]
  pointwise [Value.fn_main_v0]
  rfl

theorem vals_at (v : FVec Ideal S32x2048x2x128 .f32) (vc : FVec Ideal S32x256x2x128 .f32) (b : Fin 32) (t : Fin 2304) (j : Fin 2) (d : Fin 128) :
    (Value.fn_main_v1 (F := Ideal) vc v : FVec Ideal S32x2304x2x128 .f32) (ix4 b t j d)
      = cat (fun u => vc (ix4 b u j d)) (fun u => v (ix4 b u j d)) t := by
  pointwise [Value.fn_main_v1]
  rfl

theorem heads_at (p : FVec Ideal S32x2x4x2048x2304 .f32) (v : FVec Ideal S32x2048x2x128 .f32) (vc : FVec Ideal S32x256x2x128 .f32)
    (b : Fin 32) (s : Fin 2048) (e : Fin 1024) :
    heads p v vc (ix3 b s e)
      = ∑ t, cat (fun u => vc (ix4 b u ⟨e.val / 512, by omega⟩ ⟨e.val % 128, by omega⟩))
          (fun u => v (ix4 b u ⟨e.val / 512, by omega⟩ ⟨e.val % 128, by omega⟩)) t
        * p (ix5 b ⟨e.val / 512, by omega⟩ ⟨e.val / 128 % 4, by omega⟩ s t) := by
  pointwise [heads, vals_at]

theorem residual_at (o g x : FVec Ideal S32x2048x1024 .f32) (mod : FVec Ideal S2x40x1x3072 .f32) (w : FVec Ideal S1024x1024 .f32)
    (b : Fin 32) (s : Fin 2048) (t : Fin 1024) :
    residual o g x mod w (ix3 b s t)
      = x (ix3 b s t) + mod (ix4 1 ⟨b.val, by omega⟩ 0 ⟨2048 + t.val, by omega⟩)
        * ∑ e, g (ix3 b s e) * Ideal.div 1 (1 + Ideal.exp (-g (ix3 b s e))) * o (ix3 b s e) * w (ix2 e t) := by
  pointwise [residual]

theorem norm_at (z : FVec Ideal S32x2048x1024 .f32) (fg : FVec Ideal S1024 .f32) (r : Fin 65536) (t : Fin 1024) :
    norm z fg (ix2 r t)
      = z (ix3 ⟨r.val / 2048, by omega⟩ ⟨r.val % 2048, by omega⟩ t)
        * Ideal.rsqrt (Ideal.div (∑ u, z (ix3 ⟨r.val / 2048, by omega⟩ ⟨r.val % 2048, by omega⟩ u)
            * z (ix3 ⟨r.val / 2048, by omega⟩ ⟨r.val % 2048, by omega⟩ u)) (Ideal.ofBits .f32 0x44800000#32)
          + Ideal.ofBits .f32 0x358637BD#32)
        * fg (ix1 t) := by
  pointwise [norm]

end Cert.ReferenceIdeal.Attention
-- ==== Proof.Point.lean ====
/-
  One point of the grid against the reference: when the operand blocks of a point are the prepared arguments, the block
  it leaves is the reference's result at the point's rows. The queries and keys are reals; nothing else is asked.
-/
module

public import proofs.«01_k».proof.Proof.Block
public import proofs.«01_k».proof.Proof.Ref

@[expose] public section

set_option maxRecDepth 16384

noncomputable section

open Idealize.ShloMosaic Idealize.ShloMosaic.TcCoe Idealize.SL.Sem

namespace Cert.KernelIdeal.Attention

open Cert.KernelIdeal Cert.KernelIdeal.Gen

open Cert.ReferenceIdeal.Attention (cat scores weights heads residual norm)
open Cert.Attention.Row

theorem cat_left {α : Type} (c : Fin 256 → α) (x : Fin 2048 → α) (i : Fin 256) : cat c x ⟨i.val, by omega⟩ = c i :=
  dif_pos i.isLt

theorem cat_right {α : Type} (c : Fin 256 → α) (x : Fin 2048 → α) (i : Fin 2048) : cat c x ⟨256 + i.val, by omega⟩ = x i := by
  refine (dif_neg (by simp)).trans (congrArg x (Fin.ext ?_))
  show 256 + i.val - 256 = i.val
  omega

theorem cat_coe (c : Fin 256 → ℝ) (x : Fin 2048 → ℝ) (t : Fin 2304) :
    cat (fun i => ((c i : ℝ) : EReal)) (fun i => ((x i : ℝ) : EReal)) t = ((cat c x t : ℝ) : EReal) := by
  unfold cat
  split_ifs <;> rfl

/-- A column of the reference's heads is its row of attention. -/
theorem heads_row (S : FVec Ideal Cert.ReferenceIdeal.S32x2x4x2048x2304 .f32) (v : FVec Ideal S32x2048x2x128 .f32)
    (vc : FVec Ideal S32x256x2x128 .f32) (b : Fin 32) (s : Fin 2048) (e : Fin 1024) (h : Fin 8) (d : Fin 128)
    (he : e.val = 128 * h.val + d.val) :
    heads (weights S) v vc (ix3 b s e)
      = softRow (fun t : Fin 2304 => S (ix5 b (⟨h.val / 4, by omega⟩ : Fin 2) (⟨h.val % 4, by omega⟩ : Fin 4) s t))
          (cat (fun u => vc (ix4 b u ⟨h.val / 4, by omega⟩ d)) (fun u => v (ix4 b u ⟨h.val / 4, by omega⟩ d))) := by
  have h1 : (⟨e.val / 512, by omega⟩ : Fin 2) = ⟨h.val / 4, by omega⟩ := Fin.ext (by show e.val / 512 = h.val / 4; omega)
  have h2 : (⟨e.val / 128 % 4, by omega⟩ : Fin 4) = ⟨h.val % 4, by omega⟩ := Fin.ext (by show e.val / 128 % 4 = h.val % 4; omega)
  have h3 : (⟨e.val % 128, by omega⟩ : Fin 128) = d := Fin.ext (by show e.val % 128 = d.val; omega)
  rw [Cert.ReferenceIdeal.Attention.heads_at, h1, h2, h3]
  simp only [Cert.ReferenceIdeal.Attention.weights_at, Cert.ReferenceIdeal.Attention.exps_at,
    Cert.ReferenceIdeal.Attention.top_at, softRow]

/-- A column of a point's heads is the gated column of the reference's. -/
theorem blockRow_eq (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16) (q : FVec Ideal S32x2048x8x128 .f32) (k v : FVec Ideal S32x2048x2x128 .f32) (kc vc : FVec Ideal S32x256x2x128 .f32) (g : FVec Ideal S32x2048x1024 .f32)
    (qr : Cert.KernelIdeal.S32x2048x8x128.Idx → ℝ) (kr : Cert.KernelIdeal.S32x2048x2x128.Idx → ℝ) (cr : Cert.KernelIdeal.S32x256x2x128.Idx → ℝ)
    (hq : ∀ i, q i = ((qr i : ℝ) : EReal)) (hk : ∀ i, k i = ((kr i : ℝ) : EReal)) (hc : ∀ i, kc i = ((cr i : ℝ) : EReal))
    (b : Fin 32) (s : Fin 2048) (r : Fin 1024)
    (h0 : ∀ (h : Fin 8) (d : Fin 128), x0 (ix2 r ⟨128 * h.val + d.val, by omega⟩)
      = Ideal.div (q (ix4 b s h d) * Ideal.ofBits .f32 0x3DB504F3#32) ((Real.log 2 : ℝ) : EReal))
    (h1 : ∀ (i : Fin 256) (j : Fin 2) (d : Fin 128), x1 (ix2 i ⟨128 * j.val + d.val, by omega⟩) = kc (ix4 b i j d))
    (h2 : ∀ (i : Fin 256) (j : Fin 2) (d : Fin 128), x2 (ix2 i ⟨256 * j.val + d.val, by omega⟩) = vc (ix4 b i j d))
    (h2' : ∀ (i : Fin 256) (j : Fin 2) (d : Fin 128), x2 (ix2 i ⟨256 * j.val + (128 + d.val), by omega⟩) = 1)
    (h3 : ∀ (i : Fin 2048) (j : Fin 2) (d : Fin 128), x3 (ix2 i ⟨128 * j.val + d.val, by omega⟩) = k (ix4 b i j d))
    (h4 : ∀ (i : Fin 2048) (j : Fin 2) (d : Fin 128), x4 (ix2 i ⟨256 * j.val + d.val, by omega⟩) = v (ix4 b i j d))
    (h4' : ∀ (i : Fin 2048) (j : Fin 2) (d : Fin 128), x4 (ix2 i ⟨256 * j.val + (128 + d.val), by omega⟩) = 1)
    (h5 : ∀ e : Fin 1024, x5 (ix2 r e) = g (ix3 b s e))
    (e : Fin 1024) (h : Fin 8) (d : Fin 128) (he : e.val = 128 * h.val + d.val) :
    blockRow x0 x1 x2 x3 x4 x5 h r d
      = g (ix3 b s e) * Ideal.div 1 (1 + Ideal.exp (-g (ix3 b s e))) * heads (weights (scores q k kc)) v vc (ix3 b s e) := by
  obtain ⟨c0, hc0⟩ := ofBits_scale
  have hcol : (⟨128 * h.val + d.val, by omega⟩ : Fin 1024) = e := Fin.ext he.symm
  have hh : (⟨h.val / 4 * 4 + h.val % 4, by omega⟩ : Fin 8) = h := Fin.ext (by show h.val / 4 * 4 + h.val % 4 = h.val; omega)
  rw [heads_row _ v vc b s e h d he]
  unfold blockRow
  rw [hcol, h5]
  refine congrArg₂ (fun a z : EReal => a * z) rfl ?_
  have hs : (fun t : Fin 2304 => scores q k kc (ix5 b (⟨h.val / 4, by omega⟩ : Fin 2) (⟨h.val % 4, by omega⟩ : Fin 4) s t))
      = fun t => (((∑ x : Fin 128, cat (α := ℝ) (fun u => cr (ix4 b u ⟨h.val / 4, by omega⟩ x)) (fun u => kr (ix4 b u ⟨h.val / 4, by omega⟩ x)) t
          * qr (ix4 b s h x)) * c0 : ℝ) : EReal) := by
    funext t
    rw [Cert.ReferenceIdeal.Attention.scores_at, hc0]
    simp only [hh, hq, hk, hc, cat_coe]
    exact score_coe _ _ _
  rw [hs]
  refine row_eq (by norm_num) (by norm_num) _ _ _ _ _ _ _ _ (fun i => ?_) (fun i => ?_) (fun i => ?_) (fun i => ?_) (fun i => ?_) (fun i => ?_)
  · have e1 := fun x => h1 i ⟨h.val / 4, by omega⟩ x
    simp only [h0, e1, hq, hc, hc0, cat_left]
    exact score_eq _ _ _
  · have e3 := fun x => h3 i ⟨h.val / 4, by omega⟩ x
    simp only [h0, e3, hq, hk, hc0, cat_right]
    exact score_eq _ _ _
  · rw [cat_left]; exact h2 i ⟨h.val / 4, by omega⟩ d
  · rw [cat_right]; exact h4 i ⟨h.val / 4, by omega⟩ d
  · exact h2' i ⟨h.val / 4, by omega⟩ d
  · exact h4' i ⟨h.val / 4, by omega⟩ d

/-- The block of a point is the reference's result at the point's rows. -/
theorem out_eq_norm (x0 : FVec Ideal S1024x1024 .bf16) (x1 : FVec Ideal S256x256 .bf16) (x2 : FVec Ideal S256x512 .bf16)
    (x3 : FVec Ideal S2048x256 .bf16) (x4 : FVec Ideal S2048x512 .bf16) (x5 : FVec Ideal S1024x1024 .bf16)
    (x6 : FVec Ideal S1024x1024 .f32) (x7 : FVec Ideal S1x1x1x3072 .f32) (x8 : FVec Ideal S1024x1024 .bf16) (x9 : FVec Ideal S1x1024 .f32) (q : FVec Ideal S32x2048x8x128 .f32) (k v : FVec Ideal S32x2048x2x128 .f32) (kc vc : FVec Ideal S32x256x2x128 .f32) (g x : FVec Ideal S32x2048x1024 .f32) (mod : FVec Ideal S2x40x1x3072 .f32)
    (w : FVec Ideal S1024x1024 .f32) (fg : FVec Ideal S1024 .f32)
    (b : Fin 32) (s : Fin 2048) (r n : Fin 1024) (R : Fin 65536) (hR : R.val = b.val * 2048 + s.val)
    (hrow : ∀ (e : Fin 1024) (h : Fin 8) (d : Fin 128), e.val = 128 * h.val + d.val → blockRow x0 x1 x2 x3 x4 x5 h r d
      = g (ix3 b s e) * Ideal.div 1 (1 + Ideal.exp (-g (ix3 b s e))) * heads (weights (scores q k kc)) v vc (ix3 b s e))
    (h6 : ∀ n : Fin 1024, x6 (ix2 r n) = x (ix3 b s n))
    (h7 : ∀ n : Fin 1024, x7 (ix4 0 0 0 ⟨2048 + n.val, by omega⟩) = mod (ix4 1 ⟨b.val, by omega⟩ 0 ⟨2048 + n.val, by omega⟩))
    (h8 : ∀ e n : Fin 1024, x8 (ix2 e n) = w (ix2 e n)) (h9 : ∀ n : Fin 1024, x9 (ix2 0 n) = fg (ix1 n)) :
    (out0_10 (F := Ideal) x0 x1 x2 x3 x4 x5 x6 x7 x8 x9 (ix2 r n) : EReal)
      = norm (residual (heads (weights (scores q k kc)) v vc) g x mod w) fg (ix2 R n) := by
  have hb : (⟨R.val / 2048, by omega⟩ : Fin 32) = b := Fin.ext (by show R.val / 2048 = b.val; omega)
  have hs : (⟨R.val % 2048, by omega⟩ : Fin 2048) = s := Fin.ext (by show R.val % 2048 = s.val; omega)
  have hz (u : Fin 1024) : blockResidual x0 x1 x2 x3 x4 x5 x6 x7 x8 x9 r u
      = residual (heads (weights (scores q k kc)) v vc) g x mod w (ix3 b s u) := by
    rw [Cert.ReferenceIdeal.Attention.residual_at]
    unfold blockResidual
    rw [h6, h7]
    refine congrArg₂ (fun a z : EReal => a + z) rfl (congrArg₂ (fun a z : EReal => a * z) rfl (Finset.sum_congr rfl fun e _ => ?_))
    rw [hrow e _ _ (by show e.val = 128 * (e.val / 128) + e.val % 128; omega), h8]
  rw [out_at, Cert.ReferenceIdeal.Attention.norm_at, hb, hs, h9]
  simp only [hz]

end Cert.KernelIdeal.Attention

end
-- ==== Proof.Prep.lean ====
/-
  The arrays that the kernel's host code prepares from the arguments, at an index: heads side by side in one row of a
  matrix, the queries scaled, and a block of ones beside every head of the values.
-/
module

public import proofs.«01_k».proof.Proof.Softmax
public import proofs.«01_k».proof.Proof.Gen.KernelIdeal.Value
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.KernelIdeal.Attention

open Cert.KernelIdeal Cert.KernelIdeal.Gen

open StableHlo

variable (m : (ℓ : Loc nD τ sig) → Buf (Elt Ideal) ℓ) (c : Dev nD)

/-- The batches of a four-dimensional array, and its heads, side by side. -/
theorem merge_at {B T J D N M : ℕ} (x : (⟨4, ![B, T, J, D]⟩ : Shape).Idx → EReal) (hc : (⟨4, ![B, T, J, D]⟩ : Shape).ShapeCasts ⟨2, ![N, M]⟩)
    (b : Fin B) (s : Fin T) (j : Fin J) (d : Fin D) (R : Fin N) (n : Fin M) (hM : M = J * D) (hR : R.val = b.val * T + s.val) (hn : n.val = j.val * D + d.val) :
    shapeCast ⟨2, ![N, M]⟩ x hc (ix2 R n) = x (ix4 b s j d) := by
  subst hM
  refine shapeCast_apply _ _ _ _ ?_
  rw [Shape.rowMajor_val_four, Shape.rowMajor_val_two]
  show ((b.val * T + s.val) * J + j.val) * D + d.val = R.val * (J * D) + n.val
  rw [hR, hn]
  ring

/-- The queries, scaled, in base-2 logarithm units. -/
def qPrep (q : FVec Ideal S32x2048x8x128 .f32) : FVec Ideal S65536x1024 .bf16 :=
  truncf .bf16 (Host.divf (mulf (shapeCast S65536x1024 q shapeCasts_S32x2048x8x128_S65536x1024)
      (broadcastInDim S65536x1024 ![] bcast_S_S65536x1024 (constant S_ .f32 0x3DB504F3#32)))
    (broadcastInDim S65536x1024 ![] bcast_S_S65536x1024 (Host.log (constant S_ .f32 0x40000000#32)))) bitsLt_bf16_f32

theorem qPrep_eq : (V m c main_v6 : FVec Ideal S65536x1024 .bf16) = qPrep (m ((c.tc : Thread nD τ).loc main_arg0)) := by
  unfold V hostOps0
  after_reads_simp
  rfl

theorem qPrep_at (q : FVec Ideal S32x2048x8x128 .f32) (b : Fin 32) (s : Fin 2048) (h : Fin 8) (d : Fin 128) (R : Fin 65536) (n : Fin 1024)
    (hR : R.val = b.val * 2048 + s.val) (hn : n.val = h.val * 128 + d.val) :
    qPrep q (ix2 R n) = Ideal.div (q (ix4 b s h d) * Ideal.ofBits .f32 0x3DB504F3#32) ((Real.log 2 : ℝ) : EReal) := by
  have e (C : EReal) : Ideal.div (C * Ideal.ofBits .f32 0x3DB504F3#32) (Ideal.log (Ideal.ofBits .f32 0x40000000#32))
      = Ideal.div (C * Ideal.ofBits .f32 0x3DB504F3#32) ((Real.log 2 : ℝ) : EReal) := by
    rw [Cert.Attention.Row.ofBits_two, Ideal.log_coe, if_neg (by norm_num)]
  refine Eq.trans ?_ (e _)
  refine Eq.trans (b := Ideal.div (shapeCast S65536x1024 q shapeCasts_S32x2048x8x128_S65536x1024 (ix2 R n) * Ideal.ofBits .f32 0x3DB504F3#32)
    (Ideal.log (Ideal.ofBits .f32 0x40000000#32))) rfl ?_
  rw [merge_at q _ b s h d R n rfl hR hn]

/-- A block of ones beside each of the two heads of a row. -/
def ones4 {N : ℕ} (x : FVec Ideal ⟨2, ![N, 256]⟩ .bf16) (o : FVec Ideal ⟨2, ![N, 128]⟩ .bf16)
    (h0 : (⟨2, ![N, 256]⟩ : Shape).Slices ![0, 0] ⟨2, ![N, 128]⟩) (h1 : (⟨2, ![N, 256]⟩ : Shape).Slices ![0, 128] ⟨2, ![N, 128]⟩)
    (h : Shape.Concatenates [⟨2, ![N, 128]⟩, ⟨2, ![N, 128]⟩, ⟨2, ![N, 128]⟩, ⟨2, ![N, 128]⟩] ⟨2, ![N, 512]⟩ 1) : FVec Ideal ⟨2, ![N, 512]⟩ .bf16 :=
  concatenate ⟨2, ![N, 512]⟩ 1 [⟨⟨2, ![N, 128]⟩, extractStridedSlice ⟨2, ![N, 128]⟩ ![0, 0] x h0⟩, ⟨⟨2, ![N, 128]⟩, o⟩,
    ⟨⟨2, ![N, 128]⟩, extractStridedSlice ⟨2, ![N, 128]⟩ ![0, 128] x h1⟩, ⟨⟨2, ![N, 128]⟩, o⟩] h

theorem ones4_eq {N : ℕ} (x : FVec Ideal ⟨2, ![N, 256]⟩ .bf16) (o p0 p1 p2 p3 : FVec Ideal ⟨2, ![N, 128]⟩ .bf16) (h0 h1 h)
    (e0 : p0 = extractStridedSlice ⟨2, ![N, 128]⟩ ![0, 0] x h0) (e1 : p1 = o)
    (e2 : p2 = extractStridedSlice ⟨2, ![N, 128]⟩ ![0, 128] x h1) (e3 : p3 = o) :
    concatenate ⟨2, ![N, 512]⟩ 1 [⟨⟨2, ![N, 128]⟩, p0⟩, ⟨⟨2, ![N, 128]⟩, p1⟩, ⟨⟨2, ![N, 128]⟩, p2⟩, ⟨⟨2, ![N, 128]⟩, p3⟩] h = ones4 x o h0 h1 h := by
  subst e0 e1 e2 e3
  rfl

theorem ones4_val {N : ℕ} (x : FVec Ideal ⟨2, ![N, 256]⟩ .bf16) (o : FVec Ideal ⟨2, ![N, 128]⟩ .bf16) (h0 h1 h)
    (R : Fin N) (j : Fin 2) (d : Fin 128) :
    ones4 x o h0 h1 h (ix2 R ⟨256 * j.val + d.val, by omega⟩) = x (ix2 R ⟨128 * j.val + d.val, by omega⟩) := by
  pointwise [ones4]
  split_ifs <;> first | (exfalso; omega) | (refine congrArg x (funext fun i => Fin.ext ?_); fin_cases i <;> simp [Shape.Idx.norm] <;> omega)

theorem ones4_one {N : ℕ} (x : FVec Ideal ⟨2, ![N, 256]⟩ .bf16) (o : FVec Ideal ⟨2, ![N, 128]⟩ .bf16) (h0 h1 h)
    (ho : ∀ i, o i = (1 : EReal)) (R : Fin N) (j : Fin 2) (d : Fin 128) :
    ones4 x o h0 h1 h (ix2 R ⟨256 * j.val + (128 + d.val), by omega⟩) = (1 : EReal) := by
  pointwise [ones4]
  split_ifs <;> first | (exfalso; omega) | exact ho _

/-- The word of one. -/
theorem ofBits_one : Ideal.ofBits .bf16 0x3F80#16 = (1 : EReal) := by
  simp [Ideal.ofBits, Ideal.ieee, -EReal.coe_mul]; norm_num

/-- The keys, or the values before their ones: the heads of a row side by side, at bf16. -/
def ctxPrep (x : FVec Ideal S32x256x2x128 .f32) : FVec Ideal S8192x256 .bf16 :=
  truncf .bf16 (shapeCast S8192x256 x shapeCasts_S32x256x2x128_S8192x256) bitsLt_bf16_f32

theorem vc_eq : (V m c main_v18 : FVec Ideal S8192x512 .bf16)
    = ones4 (ctxPrep (m ((c.tc : Thread nD τ).loc main_arg4))) (broadcastInDim S8192x128 ![] bcast_S_S8192x128 (constant S_ .bf16 0x3F80#16))
        slices_S8192x256_S8192x128_0_0 slices_S8192x256_S8192x128_0_128 concatenates_S8192x128_S8192x128_S8192x128_S8192x128_S8192x512_d1 := by
  unfold V hostOps0
  after_reads_simp
  refine ones4_eq _ _ _ _ _ _ _ _ _ ?_ ?_ ?_ ?_
  · show upto _ _ _ (Proc.devRef .tc main_v16) = _
    after_reads_simp
    rfl
  · show upto _ _ _ (Proc.devRef .tc main_v15) = _
    after_reads_simp
  · show upto _ _ _ (Proc.devRef .tc main_v17) = _
    after_reads_simp
    rfl
  · show upto _ _ _ (Proc.devRef .tc main_v15) = _
    after_reads_simp

/-- The same of the sequence's own keys and values. -/
def seqPrep (x : FVec Ideal S32x2048x2x128 .f32) : FVec Ideal S65536x256 .bf16 :=
  truncf .bf16 (shapeCast S65536x256 x shapeCasts_S32x2048x2x128_S65536x256) bitsLt_bf16_f32

theorem ctxPrep_at (x : FVec Ideal S32x256x2x128 .f32) (b : Fin 32) (i : Fin 256) (j : Fin 2) (d : Fin 128) (R : Fin 8192) (n : Fin 256)
    (hR : R.val = b.val * 256 + i.val) (hn : n.val = j.val * 128 + d.val) : ctxPrep x (ix2 R n) = x (ix4 b i j d) :=
  merge_at x _ b i j d R n rfl hR hn

theorem seqPrep_at (x : FVec Ideal S32x2048x2x128 .f32) (b : Fin 32) (i : Fin 2048) (j : Fin 2) (d : Fin 128) (R : Fin 65536) (n : Fin 256)
    (hR : R.val = b.val * 2048 + i.val) (hn : n.val = j.val * 128 + d.val) : seqPrep x (ix2 R n) = x (ix4 b i j d) :=
  merge_at x _ b i j d R n rfl hR hn

theorem v_eq : (V m c main_v24 : FVec Ideal S65536x512 .bf16)
    = ones4 (seqPrep (m ((c.tc : Thread nD τ).loc main_arg2))) (broadcastInDim S65536x128 ![] bcast_S_S65536x128 (constant S_ .bf16 0x3F80#16))
        slices_S65536x256_S65536x128_0_0 slices_S65536x256_S65536x128_0_128 concatenates_S65536x128_S65536x128_S65536x128_S65536x128_S65536x512_d1 := by
  unfold V hostOps0
  after_reads_simp
  refine ones4_eq _ _ _ _ _ _ _ _ _ ?_ ?_ ?_ ?_
  · show upto _ _ _ (Proc.devRef .tc main_v22) = _
    after_reads_simp
    rfl
  · show upto _ _ _ (Proc.devRef .tc main_v21) = _
    after_reads_simp
  · show upto _ _ _ (Proc.devRef .tc main_v23) = _
    after_reads_simp
    rfl
  · show upto _ _ _ (Proc.devRef .tc main_v21) = _
    after_reads_simp

theorem kc_eq : (V m c main_v10 : FVec Ideal S8192x256 .bf16) = ctxPrep (m ((c.tc : Thread nD τ).loc main_arg3)) := by
  unfold V hostOps0
  after_reads_simp
  rfl

theorem k_eq : (V m c main_v8 : FVec Ideal S65536x256 .bf16) = seqPrep (m ((c.tc : Thread nD τ).loc main_arg1)) := by
  unfold V hostOps0
  after_reads_simp
  rfl

/-- The rows of a three-dimensional array. -/
theorem rows_at {B T D N : ℕ} (x : (⟨3, ![B, T, D]⟩ : Shape).Idx → EReal) (hc : (⟨3, ![B, T, D]⟩ : Shape).ShapeCasts ⟨2, ![N, D]⟩)
    (b : Fin B) (s : Fin T) (R : Fin N) (n : Fin D) (hR : R.val = b.val * T + s.val) :
    shapeCast ⟨2, ![N, D]⟩ x hc (ix2 R n) = x (ix3 b s n) := by
  refine shapeCast_apply _ _ _ _ ?_
  rw [Shape.rowMajor_val_three, Shape.rowMajor_val_two]
  show (b.val * T + s.val) * D + n.val = R.val * D + n.val
  rw [hR]

/-- The gate path, at bf16. -/
def gatePrep (g : FVec Ideal S32x2048x1024 .f32) : FVec Ideal S65536x1024 .bf16 :=
  truncf .bf16 (shapeCast S65536x1024 g shapeCasts_S32x2048x1024_S65536x1024) bitsLt_bf16_f32

/-- The output projection, at bf16. -/
def wPrep (w : FVec Ideal S1024x1024 .f32) : FVec Ideal S1024x1024 .bf16 := truncf .bf16 w bitsLt_bf16_f32

theorem gate_eq : (V m c main_v12 : FVec Ideal S65536x1024 .bf16) = gatePrep (m ((c.tc : Thread nD τ).loc main_arg5)) := by
  unfold V hostOps0
  after_reads_simp
  rfl

theorem x_eq : (V m c main_v25 : FVec Ideal S65536x1024 .f32)
    = shapeCast S65536x1024 (m ((c.tc : Thread nD τ).loc main_arg6) : FVec Ideal S32x2048x1024 .f32) shapeCasts_S32x2048x1024_S65536x1024 := by
  unfold V hostOps0
  after_reads_simp
  rfl

theorem mod_eq : (V m c main_arg7 : FVec Ideal S2x40x1x3072 .f32) = m ((c.tc : Thread nD τ).loc main_arg7) := by
  unfold V hostOps0
  after_reads_simp

theorem w_eq : (V m c main_v26 : FVec Ideal S1024x1024 .bf16) = wPrep (m ((c.tc : Thread nD τ).loc main_arg8)) := by
  unfold V hostOps0
  after_reads_simp
  rfl

theorem fg_eq : (V m c main_v27 : FVec Ideal S1x1024 .f32)
    = shapeCast S1x1024 (m ((c.tc : Thread nD τ).loc main_arg9) : FVec Ideal S1024 .f32) shapeCasts_S1024_S1x1024 := by
  unfold V hostOps0
  after_reads_simp
  rfl

theorem fg_at (fg : FVec Ideal S1024 .f32) (n : Fin 1024) : shapeCast S1x1024 fg shapeCasts_S1024_S1x1024 (ix2 0 n) = fg (ix1 n) := by
  refine shapeCast_apply _ _ _ _ ?_
  rw [Shape.rowMajor_val_one, Shape.rowMajor_val_two]
  show n.val = 0 * 1024 + n.val
  omega

end Cert.KernelIdeal.Attention

end
-- ==== Proof.Array.lean ====
/-
  The operand blocks of a grid point, from the prepared arrays, and the result array after the run: point `t` has rows
  `1024 t … 1024 t + 1023` of the result, batch `t / 2`, and its blocks are those rows and that batch's keys and values.
-/
module

public import proofs.«01_k».proof.Proof.Point
public import proofs.«01_k».proof.Proof.Prep

@[expose] public section

set_option maxRecDepth 16384

noncomputable section

open Idealize.ShloMosaic Idealize.ShloMosaic.TcCoe Idealize.SL.Sem

namespace Cert.KernelIdeal.Attention

open Cert.KernelIdeal Cert.KernelIdeal.Gen

variable (m : (ℓ : Loc nD τ sig) → Buf (Elt Ideal) ℓ) (c : Dev nD)

theorem idx : ∀ t : Fin cfg0.N, (win0_0.index t = ![t.val, 0] ∧ win0_1.index t = ![t.val / 2, 0] ∧ win0_2.index t = ![t.val / 2, 0]
    ∧ win0_3.index t = ![t.val / 2, 0] ∧ win0_4.index t = ![t.val / 2, 0] ∧ win0_5.index t = ![t.val, 0] ∧ win0_6.index t = ![t.val, 0])
    ∧ win0_7.index t = ![1, t.val / 2, 0, 0] ∧ win0_8.index t = ![0, 0] ∧ win0_9.index t = ![0, 0] ∧ win0_10.index t = ![t.val, 0] :=
  (by decide +kernel : ∀ t : Fin grid0.N, _)

theorem lt_N (t : Fin cfg0.N) : t.val < 64 := t.isLt

theorem blk0 (t : Fin cfg0.N) (r e : Fin 1024) : iblk m c 0 t (ix2 r e) = V m c main_v6 (ix2 ⟨t.val * 1024 + r.val, by have := lt_N t; omega⟩ e) := by
  blk_ext [iblk, idx t]

theorem blk5 (t : Fin cfg0.N) (r e : Fin 1024) : iblk m c 5 t (ix2 r e) = V m c main_v12 (ix2 ⟨t.val * 1024 + r.val, by have := lt_N t; omega⟩ e) := by
  blk_ext [iblk, idx t]

theorem blk6 (t : Fin cfg0.N) (r e : Fin 1024) : iblk m c 6 t (ix2 r e) = V m c main_v25 (ix2 ⟨t.val * 1024 + r.val, by have := lt_N t; omega⟩ e) := by
  blk_ext [iblk, idx t]

theorem blk1 (t : Fin cfg0.N) (r : Fin 256) (e : Fin 256) : iblk m c 1 t (ix2 r e) = V m c main_v10 (ix2 ⟨t.val / 2 * 256 + r.val, by have := lt_N t; omega⟩ e) := by
  blk_ext [iblk, idx t]

theorem blk2 (t : Fin cfg0.N) (r : Fin 256) (e : Fin 512) : iblk m c 2 t (ix2 r e) = V m c main_v18 (ix2 ⟨t.val / 2 * 256 + r.val, by have := lt_N t; omega⟩ e) := by
  blk_ext [iblk, idx t]

theorem blk3 (t : Fin cfg0.N) (r : Fin 2048) (e : Fin 256) : iblk m c 3 t (ix2 r e) = V m c main_v8 (ix2 ⟨t.val / 2 * 2048 + r.val, by have := lt_N t; omega⟩ e) := by
  blk_ext [iblk, idx t]

theorem blk4 (t : Fin cfg0.N) (r : Fin 2048) (e : Fin 512) : iblk m c 4 t (ix2 r e) = V m c main_v24 (ix2 ⟨t.val / 2 * 2048 + r.val, by have := lt_N t; omega⟩ e) := by
  blk_ext [iblk, idx t]

theorem blk7 (t : Fin cfg0.N) (e : Fin 3072) : iblk m c 7 t (ix4 0 0 0 e) = V m c main_arg7 (ix4 1 ⟨t.val / 2, by have := lt_N t; omega⟩ 0 e) := by
  blk_ext [iblk, idx t]

theorem blk8 (t : Fin cfg0.N) (r e : Fin 1024) : iblk m c 8 t (ix2 r e) = V m c main_v26 (ix2 r e) := by
  blk_ext [iblk, idx t]

theorem blk9 (t : Fin cfg0.N) (e : Fin 1024) : iblk m c 9 t (ix2 0 e) = V m c main_v27 (ix2 0 e) := by
  blk_ext [iblk, idx t]

end Cert.KernelIdeal.Attention

end
-- ==== Proof.Pre.lean ====
/-
  What the precondition says of the arguments: every query and every key, of the sequence and of the context, is a real.
-/
module

public import proofs.«01_k».proof.Defs
public import proofs.«01_k».proof.Proof.Gen.Pre_finite_qk
public import proofs.«01_k».proof.Proof.Softmax
public import Idealize.ShloMosaic.Lib.ReduceAll
public import proofs.«01_k».proof.Proof.Gen.KernelIdeal.Frame

@[expose] public section

set_option maxRecDepth 16384

noncomputable section

open Idealize.ShloMosaic Idealize.ShloMosaic.TcCoe Idealize.SL.Sem

namespace Cert.KernelIdeal.Attention

open Cert.KernelIdeal Cert.KernelIdeal.Gen

/-- The word of `jnp.inf`. -/
theorem ofBits_inf : Ideal.ofBits .f32 0x7F800000#32 = ⊤ := by
  simp [Ideal.ofBits, Ideal.ieee]

/-- A magnitude below infinity is a real's. -/
theorem real_of_abs_lt (x : EReal) (h : FloatOps.cmpf (F := Ideal) (φ := .f32) .olt (FloatOps.absf x) (Ideal.ofBits .f32 0x7F800000#32) = 1#1) :
    ∃ r : ℝ, x = (r : EReal) := by
  rw [ofBits_inf, Ideal.cmpf_def, Ideal.absf_def] at h
  induction x with
  | coe r => exact ⟨r, rfl⟩
  | top => simp [Ideal.cmp] at h
  | bot => simp [Ideal.cmp] at h

theorem reals_of_all {s u : Shape} {axes : List (Fin s.rank)} [Subsingleton u.Idx] (x : FVec Ideal s .f32) (y : FVec Ideal s .f32) (init : IVec u 1)
    (h : s.ReducesTo axes u) (hu : 0 < u.numel) (j : u.Idx) (hy : ∀ i, y i = Ideal.ofBits .f32 0x7F800000#32)
    (e : Host.reduce IntOp.andi (cmpf .olt (Host.absf x) y) init h hu j = 1#1) : ∃ r : s.Idx → ℝ, ∀ i, x i = ((r i : ℝ) : EReal) := by
  have hx (i : s.Idx) : ∃ r : ℝ, x i = (r : EReal) := real_of_abs_lt _ (by
    have := Host.reduce_andi_all _ _ h hu j e i
    have h' : FloatOps.cmpf (F := Ideal) (φ := .f32) .olt (FloatOps.absf (x i)) (y i) = 1#1 := this
    rwa [hy] at h')
  exact ⟨fun i => (hx i).choose, fun i => (hx i).choose_spec⟩

theorem reals (m : (ℓ : Loc nD τ sig) → Buf (Elt Ideal) ℓ) (h : Cert.Pre_KernelIdeal_finite_qk m) (c : Dev nD) :
    (∃ r : S32x2048x8x128.Idx → ℝ, ∀ i, (m ((c.tc : Thread nD τ).loc main_arg0) : FVec Ideal S32x2048x8x128 .f32) i = ((r i : ℝ) : EReal))
    ∧ (∃ r : S32x2048x2x128.Idx → ℝ, ∀ i, (m ((c.tc : Thread nD τ).loc main_arg1) : FVec Ideal S32x2048x2x128 .f32) i = ((r i : ℝ) : EReal))
    ∧ (∃ r : S32x256x2x128.Idx → ℝ, ∀ i, (m ((c.tc : Thread nD τ).loc main_arg3) : FVec Ideal S32x256x2x128 .f32) i = ((r i : ℝ) : EReal)) := by
  have h0 := congrFun (h c) default
  dsimp only [Cert.Pre_finite_qk.fn] at h0
  obtain ⟨h1, hc⟩ := IntOp.andi_eq_one.1 h0
  obtain ⟨hq, hk⟩ := IntOp.andi_eq_one.1 h1
  exact ⟨reals_of_all _ _ _ _ _ _ (fun _ => rfl) hq, reals_of_all _ _ _ _ _ _ (fun _ => rfl) hk, reals_of_all _ _ _ _ _ _ (fun _ => rfl) hc⟩

end Cert.KernelIdeal.Attention

end
-- ==== Proof.Attention.lean ====
/-
  The attention call's result: the array the kernel leaves is the reference's, when the queries and keys are real.
-/
module

public import proofs.«01_k».proof.Proof.Array
public import proofs.«01_k».proof.Proof.Pre
public import proofs.«01_k».proof.Proof.Gen.ReferenceIdeal.Run

@[expose] public section

set_option maxRecDepth 16384

noncomputable section

open Idealize.ShloMosaic Idealize.ShloMosaic.TcCoe Idealize.SL.Sem

namespace Cert.KernelIdeal.Attention

open Cert.KernelIdeal Cert.KernelIdeal.Gen

open Cert.ReferenceIdeal.Attention (scores weights heads residual norm)

variable (m : (ℓ : Loc nD τ sig) → Buf (Elt Ideal) ℓ) (c : Dev nD)

/-- The reference's result at the kernel's arguments. -/
def result : FVec Ideal S65536x1024 .f32 :=
  norm (residual (heads (weights (scores (m ((c.tc : Thread nD τ).loc main_arg0)) (m ((c.tc : Thread nD τ).loc main_arg1)) (m ((c.tc : Thread nD τ).loc main_arg3)))) (m ((c.tc : Thread nD τ).loc main_arg2)) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))

/-- What point `t` leaves at an index of its block. -/
theorem point (h : Cert.Pre_KernelIdeal_finite_qk m) (t : Fin cfg0.N) (r n : Fin 1024) (R : Fin 65536) (hR : R.val = t.val * 1024 + r.val) :
    (out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) (ix2 r n) : EReal) = result m c (ix2 R n) := by
  obtain ⟨⟨qr, hq⟩, ⟨kr, hk⟩, ⟨cr, hc⟩⟩ := reals m h c
  have ht := lt_N t
  have hs : t.val % 2 * 1024 + r.val < 2048 := by omega
  refine out_eq_norm _ _ _ _ _ _ _ _ _ _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ⟨t.val / 2, by omega⟩ ⟨t.val % 2 * 1024 + r.val, hs⟩ r n R (by show R.val = t.val / 2 * 2048 + (t.val % 2 * 1024 + r.val); omega)
    (blockRow_eq _ _ _ _ _ _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) qr kr cr hq hk hc _ _ r ?_ ?_ ?_ ?_ ?_ ?_ ?_ ?_) ?_ ?_ ?_ ?_
  · intro h d
    rw [blk0, qPrep_eq]
    exact qPrep_at _ _ _ h d _ _ (by show t.val * 1024 + r.val = t.val / 2 * 2048 + (t.val % 2 * 1024 + r.val); omega) (by show 128 * h.val + d.val = h.val * 128 + d.val; omega)
  · intro i j d
    rw [blk1, kc_eq]
    exact ctxPrep_at _ _ i j d _ _ rfl (by show 128 * j.val + d.val = j.val * 128 + d.val; omega)
  · intro i j d
    rw [blk2, vc_eq, ones4_val]
    exact ctxPrep_at _ _ i j d _ _ rfl (by show 128 * j.val + d.val = j.val * 128 + d.val; omega)
  · intro i j d
    rw [blk2, vc_eq]
    exact ones4_one _ _ _ _ _ (fun _ => ofBits_one) _ j d
  · intro i j d
    rw [blk3, k_eq]
    exact seqPrep_at _ _ i j d _ _ rfl (by show 128 * j.val + d.val = j.val * 128 + d.val; omega)
  · intro i j d
    rw [blk4, v_eq, ones4_val]
    exact seqPrep_at _ _ i j d _ _ rfl (by show 128 * j.val + d.val = j.val * 128 + d.val; omega)
  · intro i j d
    rw [blk4, v_eq]
    exact ones4_one _ _ _ _ _ (fun _ => ofBits_one) _ j d
  · intro e
    rw [blk5, gate_eq]
    exact rows_at _ _ _ _ _ _ (by show t.val * 1024 + r.val = t.val / 2 * 2048 + (t.val % 2 * 1024 + r.val); omega)
  · intro e
    rw [blk6, x_eq]
    exact rows_at _ _ _ _ _ _ (by show t.val * 1024 + r.val = t.val / 2 * 2048 + (t.val % 2 * 1024 + r.val); omega)
  · intro e
    rw [blk7, mod_eq]
  · intro e n
    rw [blk8, w_eq]
    rfl
  · intro n
    rw [blk9, fg_eq]
    exact fg_at _ n

theorem emb10 (t : Fin cfg0.N) (r n : Fin 1024) :
    (win0_10.blk t).view.emb (ix2 r n) = (ix2 ⟨t.val * 1024 + r.val, by have := lt_N t; omega⟩ n : S65536x1024.Idx) := by
  blk_ext [idx t]

/-- The result array after the run. -/
theorem final (h : Cert.Pre_KernelIdeal_finite_qk m) : ((dats m 0 c).arrAt 10 cfg0.N : FVec Ideal S65536x1024 .f32) = result m c := by
  refine (dats m 0 c).arrAt_eq_of_covers 10 _ (by decide +kernel) fun t _ y => ?_
  blk_simp
  rw [after0_10]
  idx_vars y
  have ht := lt_N t
  refine (point m c h t y0 y1 ⟨t.val * 1024 + y0.val, by omega⟩ rfl).trans (congrArg (result m c) ?_)
  exact (emb10 t y0 y1).symm

/-- The kernel and the reference end with equal results from equal arguments, of real queries and keys. -/
theorem algebraic : Cert.algebraic_KernelIdeal_ReferenceIdeal_pre_finite_qk := by
  intro m ρ m' ρ' hpre hagree
  refine ⟨fun c => result m c, ?_, ?_⟩
  · refine (θ_run Cert.KernelIdeal.defs _ _).mono (fun _ h c => ⟨(h c).1.trans (final m c hpre), (h c).2⟩) (Cert.KernelIdeal.Value.run_blocks m ρ)
  · refine (θ_run Cert.ReferenceIdeal.defs _ _).mono (fun _ h c => ⟨(h c).1.trans ?_, (h c).2⟩) (Cert.ReferenceIdeal.Value.run m' ρ')
    have e := Cert.ReferenceIdeal.Attention.res_eq m' c
    obtain ⟨e0, e1, e2, e3, e4, e5, e6, e7, e8, e9⟩ := hagree c
    refine e.trans ?_
    rw [e0, e1, e2, e3, e4, e5, e6, e7, e8, e9]
    rfl

end Cert.KernelIdeal.Attention

end
-- ==== Proof.RetinRef.lean ====
/-
  The reference of the retention input projection, at an index.
-/
module

public import proofs.«01_k».proof.Proof.Prep
public import proofs.«01_k».proof.Proof.Gen.RetinReferenceIdeal.Run
public import Idealize.ShloMosaic.Lib.Pipeline.ValueKit

@[expose] public section

set_option maxRecDepth 16384

noncomputable section

open Idealize.ShloMosaic Idealize.ShloMosaic.TcCoe Idealize.SL.Sem

namespace Cert.RetinReferenceIdeal.Proj

open Cert.RetinReferenceIdeal Cert.RetinReferenceIdeal.Gen

/-- The reference's result: the product's columns from 2048 on, the batches in one array of rows. -/
def ref (h : FVec Ideal S32x2048x1024 .f32) (w : FVec Ideal S1024x4096 .f32) : FVec Ideal S65536x2048 .bf16 :=
  truncf .bf16 (shapeCast S65536x2048 (extractStridedSlice S32x2048x2048 ![0, 0, 2048]
    (Host.dotGeneral (F := Ideal) (φ₁ := .f32) dot_S32x2048x1024_S1024x4096_S32x2048x4096_2_0_01_1_n_n none h w)
    slices_S32x2048x4096_S32x2048x2048_0_0_2048) shapeCasts_S32x2048x2048_S65536x2048) bitsLt_bf16_f32

theorem slice_at (h : FVec Ideal S32x2048x1024 .f32) (w : FVec Ideal S1024x4096 .f32) (b : Fin 32) (s : Fin 2048) (n : Fin 2048) :
    extractStridedSlice S32x2048x2048 ![0, 0, 2048]
      (Host.dotGeneral (F := Ideal) (φ₁ := .f32) dot_S32x2048x1024_S1024x4096_S32x2048x4096_2_0_01_1_n_n none h w)
      slices_S32x2048x4096_S32x2048x2048_0_0_2048 (ix3 b s n)
      = ∑ e : Fin 1024, h (ix3 b s e) * w (ix2 e ⟨2048 + n.val, by omega⟩) := by
  pointwise []

theorem ref_at (h : FVec Ideal S32x2048x1024 .f32) (w : FVec Ideal S1024x4096 .f32) (b : Fin 32) (s : Fin 2048) (n : Fin 2048) (R : Fin 65536)
    (hR : R.val = b.val * 2048 + s.val) :
    ref h w (ix2 R n) = ∑ e : Fin 1024, h (ix3 b s e) * w (ix2 e ⟨2048 + n.val, by omega⟩) :=
  (Cert.KernelIdeal.Attention.rows_at _ _ b s R n hR).trans (slice_at h w b s n)

end Cert.RetinReferenceIdeal.Proj

end
-- ==== Proof.Retin.lean ====
/-
  The retention input projection: point `t` of the grid has rows `1024 t … 1024 t + 1023`, and forms the 2048 columns of
  its product in two steps of 1024; the whole array is the reference's product from its column 2048 on.
-/
module

public import proofs.«01_k».proof.Defs
public import proofs.«01_k».proof.Proof.Prep
public import proofs.«01_k».proof.Proof.Gen.RetinIdeal.Value
public import proofs.«01_k».proof.Proof.RetinRef
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.RetinIdeal.Proj

open Cert.RetinIdeal Cert.RetinIdeal.Gen

open StableHlo

/-- A point's block at an index: the row of the one operand against the column of the other. -/
theorem out_at (a : FVec Ideal S1024x1024 .bf16) (w : FVec Ideal S1024x2048 .bf16) (r : Fin 1024) (n : Fin 2048) :
    (out0_2 (F := Ideal) a w (ix2 r n) : EReal) = ∑ e : Fin 1024, a (ix2 r e) * w (ix2 e n) := by
  canon_tiles x h
  all_goals
    idx_vars x
    pointwise [k0_pay1, k0_pay2]
    refine Finset.sum_congr rfl fun e _ => ?_
    refine congrArg₂ (fun a z : EReal => a * z) (congrArg a (funext fun i => Fin.ext ?_)) (congrArg w (funext fun i => Fin.ext ?_))
    all_goals fin_cases i <;> simp <;> omega

variable (m : (ℓ : Loc nD τ sig) → Buf (Elt Ideal) ℓ) (c : Dev nD)

/-- The rows, at bf16. -/
def hPrep (h : FVec Ideal S32x2048x1024 .f32) : FVec Ideal S65536x1024 .bf16 :=
  truncf .bf16 (shapeCast S65536x1024 h shapeCasts_S32x2048x1024_S65536x1024) bitsLt_bf16_f32

/-- The last 2048 columns of the projection, at bf16. -/
def wPrep (w : FVec Ideal S1024x4096 .f32) : FVec Ideal S1024x2048 .bf16 :=
  truncf .bf16 (extractStridedSlice S1024x2048 ![0, 2048] w slices_S1024x4096_S1024x2048_0_2048) bitsLt_bf16_f32

theorem h_eq : (V m c main_v1 : FVec Ideal S65536x1024 .bf16) = hPrep (m ((c.tc : Thread nD τ).loc main_arg0)) := by
  unfold V hostOps0
  after_reads_simp
  rfl

theorem w_eq : (V m c main_v3 : FVec Ideal S1024x2048 .bf16) = wPrep (m ((c.tc : Thread nD τ).loc main_arg1)) := by
  unfold V hostOps0
  after_reads_simp
  rfl

theorem wPrep_at (w : FVec Ideal S1024x4096 .f32) (e : Fin 1024) (n : Fin 2048) : wPrep w (ix2 e n) = w (ix2 e ⟨2048 + n.val, by omega⟩) := by
  pointwise [wPrep]

theorem idx : ∀ t : Fin cfg0.N, win0_0.index t = ![t.val, 0] ∧ win0_1.index t = ![0, 0] ∧ win0_2.index t = ![t.val, 0] :=
  (by decide +kernel : ∀ t : Fin grid0.N, _)

theorem lt_N (t : Fin cfg0.N) : t.val < 64 := t.isLt

theorem blk0 (t : Fin cfg0.N) (r e : Fin 1024) : iblk m c 0 t (ix2 r e) = V m c main_v1 (ix2 ⟨t.val * 1024 + r.val, by have := lt_N t; omega⟩ e) := by
  blk_ext [iblk, idx t]

theorem blk1 (t : Fin cfg0.N) (e : Fin 1024) (n : Fin 2048) : iblk m c 1 t (ix2 e n) = V m c main_v3 (ix2 e n) := by
  blk_ext [iblk, idx t]

theorem emb2 (t : Fin cfg0.N) (r : Fin 1024) (n : Fin 2048) :
    (win0_2.blk t).view.emb (ix2 r n) = (ix2 ⟨t.val * 1024 + r.val, by have := lt_N t; omega⟩ n : S65536x2048.Idx) := by
  blk_ext [idx t]

open Cert.RetinReferenceIdeal.Proj (ref ref_at)

/-- The result array after the run. -/
theorem final : ((dats m 0 c).arrAt 2 cfg0.N : FVec Ideal S65536x2048 .bf16)
    = ref (m ((c.tc : Thread nD τ).loc main_arg0)) (m ((c.tc : Thread nD τ).loc main_arg1)) := by
  refine (dats m 0 c).arrAt_eq_of_covers 2 _ (by decide +kernel) fun t _ y => ?_
  blk_simp
  rw [after0_2]
  idx_vars y
  have ht := lt_N t
  refine (out_at (iblk m c 0 t) (iblk m c 1 t) y0 y1).trans (Eq.trans ?_ (congrArg (ref (m ((c.tc : Thread nD τ).loc main_arg0)) (m ((c.tc : Thread nD τ).loc main_arg1))) (emb2 t y0 y1).symm))
  have hs : t.val % 2 * 1024 + y0.val < 2048 := by omega
  refine Eq.trans ?_ (ref_at _ _ ⟨t.val / 2, by omega⟩ ⟨t.val % 2 * 1024 + y0.val, hs⟩ y1 _ (by show t.val * 1024 + y0.val = t.val / 2 * 2048 + (t.val % 2 * 1024 + y0.val); omega)).symm
  refine Finset.sum_congr rfl fun e _ => ?_
  rw [blk0, blk1, h_eq, w_eq]
  refine congrArg₂ (fun a z : EReal => a * z) ?_ (wPrep_at _ e y1)
  exact Cert.KernelIdeal.Attention.rows_at _ _ _ _ _ _ (by show t.val * 1024 + y0.val = t.val / 2 * 2048 + (t.val % 2 * 1024 + y0.val); omega)

/-- The kernel and the reference end with equal results from equal arguments. -/
theorem algebraic : Cert.algebraic_RetinIdeal_RetinReferenceIdeal := by
  intro m ρ m' ρ' _ hagree
  refine ⟨fun c => ref (m ((c.tc : Thread nD τ).loc main_arg0)) (m ((c.tc : Thread nD τ).loc main_arg1)), ?_, ?_⟩
  · exact (θ_run Cert.RetinIdeal.defs _ _).mono (fun _ h c => ⟨(h c).1.trans (final m c), (h c).2⟩) (Cert.RetinIdeal.Value.run_blocks m ρ)
  · refine (θ_run Cert.RetinReferenceIdeal.defs _ _).mono (fun _ h c => ⟨(h c).1.trans ?_, (h c).2⟩) (Cert.RetinReferenceIdeal.Value.run m' ρ')
    obtain ⟨e0, e1⟩ := hagree c
    rw [e0, e1]
    rfl

end Cert.RetinIdeal.Proj

end
-- ==== Proof.RetincRef.lean ====
/-
  The reference of the context's retention input projection, at an index.
-/
module

public import proofs.«01_k».proof.Proof.Prep
public import proofs.«01_k».proof.Proof.Gen.RetincReferenceIdeal.Run
public import Idealize.ShloMosaic.Lib.Pipeline.ValueKit

@[expose] public section

set_option maxRecDepth 16384

noncomputable section

open Idealize.ShloMosaic Idealize.ShloMosaic.TcCoe Idealize.SL.Sem

namespace Cert.RetincReferenceIdeal.Proj

open Cert.RetincReferenceIdeal Cert.RetincReferenceIdeal.Gen

/-- The reference's result: the product's columns from 2048 on, the batches in one array of rows. -/
def ref (h : FVec Ideal S32x256x1024 .f32) (w : FVec Ideal S1024x4096 .f32) : FVec Ideal S8192x2048 .bf16 :=
  truncf .bf16 (shapeCast S8192x2048 (extractStridedSlice S32x256x2048 ![0, 0, 2048]
    (Host.dotGeneral (F := Ideal) (φ₁ := .f32) dot_S32x256x1024_S1024x4096_S32x256x4096_2_0_01_1_n_n none h w)
    slices_S32x256x4096_S32x256x2048_0_0_2048) shapeCasts_S32x256x2048_S8192x2048) bitsLt_bf16_f32

theorem slice_at (h : FVec Ideal S32x256x1024 .f32) (w : FVec Ideal S1024x4096 .f32) (b : Fin 32) (s : Fin 256) (n : Fin 2048) :
    extractStridedSlice S32x256x2048 ![0, 0, 2048]
      (Host.dotGeneral (F := Ideal) (φ₁ := .f32) dot_S32x256x1024_S1024x4096_S32x256x4096_2_0_01_1_n_n none h w)
      slices_S32x256x4096_S32x256x2048_0_0_2048 (ix3 b s n)
      = ∑ e : Fin 1024, h (ix3 b s e) * w (ix2 e ⟨2048 + n.val, by omega⟩) := by
  pointwise []

theorem ref_at (h : FVec Ideal S32x256x1024 .f32) (w : FVec Ideal S1024x4096 .f32) (b : Fin 32) (s : Fin 256) (n : Fin 2048) (R : Fin 8192)
    (hR : R.val = b.val * 256 + s.val) :
    ref h w (ix2 R n) = ∑ e : Fin 1024, h (ix3 b s e) * w (ix2 e ⟨2048 + n.val, by omega⟩) :=
  (Cert.KernelIdeal.Attention.rows_at _ _ b s R n hR).trans (slice_at h w b s n)

end Cert.RetincReferenceIdeal.Proj

end
-- ==== Proof.Retinc.lean ====
/-
  The retention input projection for the context, four batches to a point: point `t` of the grid has rows `1024 t … 1024 t + 1023`, and forms the 2048 columns of
  its product in two steps of 1024; the whole array is the reference's product from its column 2048 on.
-/
module

public import proofs.«01_k».proof.Defs
public import proofs.«01_k».proof.Proof.Prep
public import proofs.«01_k».proof.Proof.Gen.RetincIdeal.Value
public import proofs.«01_k».proof.Proof.RetincRef
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.RetincIdeal.Proj

open Cert.RetincIdeal Cert.RetincIdeal.Gen

open StableHlo

/-- A point's block at an index: the row of the one operand against the column of the other. -/
theorem out_at (a : FVec Ideal S1024x1024 .bf16) (w : FVec Ideal S1024x2048 .bf16) (r : Fin 1024) (n : Fin 2048) :
    (out0_2 (F := Ideal) a w (ix2 r n) : EReal) = ∑ e : Fin 1024, a (ix2 r e) * w (ix2 e n) := by
  canon_tiles x h
  all_goals
    idx_vars x
    pointwise [k0_pay1, k0_pay2]
    refine Finset.sum_congr rfl fun e _ => ?_
    refine congrArg₂ (fun a z : EReal => a * z) (congrArg a (funext fun i => Fin.ext ?_)) (congrArg w (funext fun i => Fin.ext ?_))
    all_goals fin_cases i <;> simp <;> omega

variable (m : (ℓ : Loc nD τ sig) → Buf (Elt Ideal) ℓ) (c : Dev nD)

/-- The rows, at bf16. -/
def hPrep (h : FVec Ideal S32x256x1024 .f32) : FVec Ideal S8192x1024 .bf16 :=
  truncf .bf16 (shapeCast S8192x1024 h shapeCasts_S32x256x1024_S8192x1024) bitsLt_bf16_f32

/-- The last 2048 columns of the projection, at bf16. -/
def wPrep (w : FVec Ideal S1024x4096 .f32) : FVec Ideal S1024x2048 .bf16 :=
  truncf .bf16 (extractStridedSlice S1024x2048 ![0, 2048] w slices_S1024x4096_S1024x2048_0_2048) bitsLt_bf16_f32

theorem h_eq : (V m c main_v1 : FVec Ideal S8192x1024 .bf16) = hPrep (m ((c.tc : Thread nD τ).loc main_arg0)) := by
  unfold V hostOps0
  after_reads_simp
  rfl

theorem w_eq : (V m c main_v3 : FVec Ideal S1024x2048 .bf16) = wPrep (m ((c.tc : Thread nD τ).loc main_arg1)) := by
  unfold V hostOps0
  after_reads_simp
  rfl

theorem wPrep_at (w : FVec Ideal S1024x4096 .f32) (e : Fin 1024) (n : Fin 2048) : wPrep w (ix2 e n) = w (ix2 e ⟨2048 + n.val, by omega⟩) := by
  pointwise [wPrep]

theorem idx : ∀ t : Fin cfg0.N, win0_0.index t = ![t.val, 0] ∧ win0_1.index t = ![0, 0] ∧ win0_2.index t = ![t.val, 0] :=
  (by decide +kernel : ∀ t : Fin grid0.N, _)

theorem lt_N (t : Fin cfg0.N) : t.val < 8 := t.isLt

theorem blk0 (t : Fin cfg0.N) (r e : Fin 1024) : iblk m c 0 t (ix2 r e) = V m c main_v1 (ix2 ⟨t.val * 1024 + r.val, by have := lt_N t; omega⟩ e) := by
  blk_ext [iblk, idx t]

theorem blk1 (t : Fin cfg0.N) (e : Fin 1024) (n : Fin 2048) : iblk m c 1 t (ix2 e n) = V m c main_v3 (ix2 e n) := by
  blk_ext [iblk, idx t]

theorem emb2 (t : Fin cfg0.N) (r : Fin 1024) (n : Fin 2048) :
    (win0_2.blk t).view.emb (ix2 r n) = (ix2 ⟨t.val * 1024 + r.val, by have := lt_N t; omega⟩ n : S8192x2048.Idx) := by
  blk_ext [idx t]

open Cert.RetincReferenceIdeal.Proj (ref ref_at)

/-- The result array after the run. -/
theorem final : ((dats m 0 c).arrAt 2 cfg0.N : FVec Ideal S8192x2048 .bf16)
    = ref (m ((c.tc : Thread nD τ).loc main_arg0)) (m ((c.tc : Thread nD τ).loc main_arg1)) := by
  refine (dats m 0 c).arrAt_eq_of_covers 2 _ (by decide +kernel) fun t _ y => ?_
  blk_simp
  rw [after0_2]
  idx_vars y
  have ht := lt_N t
  refine (out_at (iblk m c 0 t) (iblk m c 1 t) y0 y1).trans (Eq.trans ?_ (congrArg (ref (m ((c.tc : Thread nD τ).loc main_arg0)) (m ((c.tc : Thread nD τ).loc main_arg1))) (emb2 t y0 y1).symm))
  have hs : (t.val * 1024 + y0.val) % 256 < 256 := by omega
  refine Eq.trans ?_ (ref_at _ _ ⟨(t.val * 1024 + y0.val) / 256, by omega⟩ ⟨(t.val * 1024 + y0.val) % 256, hs⟩ y1 _ (by show t.val * 1024 + y0.val = (t.val * 1024 + y0.val) / 256 * 256 + (t.val * 1024 + y0.val) % 256; omega)).symm
  refine Finset.sum_congr rfl fun e _ => ?_
  rw [blk0, blk1, h_eq, w_eq]
  refine congrArg₂ (fun a z : EReal => a * z) ?_ (wPrep_at _ e y1)
  exact Cert.KernelIdeal.Attention.rows_at _ _ _ _ _ _ (by show t.val * 1024 + y0.val = (t.val * 1024 + y0.val) / 256 * 256 + (t.val * 1024 + y0.val) % 256; omega)

/-- The kernel and the reference end with equal results from equal arguments. -/
theorem algebraic : Cert.algebraic_RetincIdeal_RetincReferenceIdeal := by
  intro m ρ m' ρ' _ hagree
  refine ⟨fun c => ref (m ((c.tc : Thread nD τ).loc main_arg0)) (m ((c.tc : Thread nD τ).loc main_arg1)), ?_, ?_⟩
  · exact (θ_run Cert.RetincIdeal.defs _ _).mono (fun _ h c => ⟨(h c).1.trans (final m c), (h c).2⟩) (Cert.RetincIdeal.Value.run_blocks m ρ)
  · refine (θ_run Cert.RetincReferenceIdeal.defs _ _).mono (fun _ h c => ⟨(h c).1.trans ?_, (h c).2⟩) (Cert.RetincReferenceIdeal.Value.run m' ρ')
    obtain ⟨e0, e1⟩ := hagree c
    rw [e0, e1]
    rfl

end Cert.RetincIdeal.Proj

end
-- ==== Proof.MidRow.lean ====
/-
  The mid-block of a row, as functions on the extended reals: the modulated norm, the norm of a head, the rotation of a head.
-/
module

public import Idealize.ShloMosaic.PureOps.Ideal
public import proofs.«01_k».proof.Defs

@[expose] public section

set_option maxRecDepth 16384

noncomputable section

open Idealize.ShloMosaic Idealize.ShloMosaic.TcCoe Idealize.SL.Sem

namespace Cert.MidRow

open Cert

/-- The norm of a row with its gain, then the modulation's scale and shift. -/
def modNorm (x g sh sc : Fin 1024 → EReal) (n : Fin 1024) : EReal :=
  x n * Ideal.rsqrt (Ideal.div (∑ e, x e * x e) (Ideal.ofBits .f32 0x44800000#32) + Ideal.ofBits .f32 0x358637BD#32) * g n
    * (1 + sc n) + sh n

/-- The norm of a head with its gain. -/
def headNorm (z g : Fin 128 → EReal) (d : Fin 128) : EReal :=
  z d * Ideal.rsqrt (Ideal.div (∑ e, z e * z e) (Ideal.ofBits .f32 0x43000000#32) + Ideal.ofBits .f32 0x358637BD#32) * g d

/-- The other half of a head: the feature 64 away. -/
def half (d : Fin 128) : Fin 128 := ⟨(d.val + 128 - 64) % 128, by omega⟩

/-- A head in the order of halves, turned by the tables of cosines and signed sines. -/
def turn (y c s : Fin 128 → EReal) (d : Fin 128) : EReal := y d * c d + y (half d) * s d

/-- The frequencies of the 32 angles of either axis. -/
def freq (e : Fin 32) : EReal :=
  Ideal.pow (Ideal.ofBits .f32 0x461C4000#32)
    (Ideal.div (-(Ideal.ofBits .f32 0x40000000#32 * FloatOps.sitofp (F := Ideal) .f32 (BitVec.ofNat 32 e.val))) (Ideal.ofBits .f32 0x42800000#32))

/-- The angles of a position: of its row, then of its column. -/
def angle (s : Fin 2048) (e : Fin 64) : EReal :=
  if h : e.val < 32 then FloatOps.sitofp (F := Ideal) .f32 (BitVec.ofNat 32 (s.val / 64)) * freq ⟨e.val, h⟩
  else FloatOps.sitofp (F := Ideal) .f32 (BitVec.ofNat 32 (s.val % 64)) * freq ⟨e.val - 32, by omega⟩

end Cert.MidRow

end
-- ==== Proof.MidVec.lean ====
/-
  The vectors a group of 256 rows of the mid-block is built of, each at an index.
-/
module

public import proofs.«01_k».proof.Proof.Gen.MidIdeal.Skeleton
public import proofs.«01_k».proof.Proof.MidRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

/-- A load of a rectangle at an index. -/
theorem ld2 {A B a b o p : ℕ} {e : EltTy} (x : Vec Ideal ⟨2, ![A, B]⟩ e) (inb : ∀ i, (![o, p] : Fin 2 → ℕ) i + (![a, b] : Fin 2 → ℕ) i ≤ (⟨2, ![A, B]⟩ : Shape).size i)
    (r : Fin a) (d : Fin b) (R : Fin A) (D : Fin B) (hR : R.val = o + r.val) (hD : D.val = p + d.val) :
    View.ld (Val := Elt Ideal) (e' := e) x (Rect.unit (s := ⟨2, ![A, B]⟩) ![o, p] ![a, b] inb) (ix2 r d) = x (ix2 R D) := by
  refine congrArg x (funext fun i => Fin.ext ?_)
  fin_cases i <;> simp [hR, hD]

/-- A load of a stretch of a modulation row at an index. -/
theorem ld4 {p : ℕ} (x : Vec Ideal S1x1x1x3072 .f32) (inb : ∀ i, (![0, 0, 0, p] : Fin 4 → ℕ) i + (![1, 1, 1, 1024] : Fin 4 → ℕ) i ≤ S1x1x1x3072.size i)
    (n : Fin 1024) (D : Fin 3072) (hD : D.val = p + n.val) :
    View.ld (Val := Elt Ideal) (e' := .f32) x (Rect.unit (s := S1x1x1x3072) ![0, 0, 0, p] ![1, 1, 1, 1024] inb) (ix4 0 0 0 n) = x (ix4 0 0 0 D) := by
  refine congrArg x (funext fun i => Fin.ext ?_)
  fin_cases i <;> simp [hD]

section Vectors

variable (a : Vec Ideal S512x256 .bf16) (wa wb : Vec Ideal S512x1024 .bf16) (b : Vec Ideal S256x512 .bf16)
  (x : Vec Ideal S256x1024 .f32) (gm sh sc : Vec Ideal S1x1x1x1024 .f32) (gg : Vec Ideal S1x1024 .f32)

/-- The rows of a group after the residual. -/
def xG : FVec Ideal S256x1024 .f32 := k0_pay4 a wa b wb x gm

/-- The modulated norm of the rows of a group. -/
def hG : FVec Ideal S256x1024 .bf16 :=
  k0_pay9 (k0_pay4 a wa b wb x gm) (k0_pay5 gg) (k0_pay6 sh) (k0_pay7 sc) (k0_pay8 a wa b wb x gm)

theorem xG_at (r : Fin 256) (n : Fin 1024) : (xG a wa wb b x gm (ix2 r n) : EReal)
    = x (ix2 r n) + gm (ix4 0 0 0 n) * (∑ k, a (ix2 k r) * wa (ix2 k n) + ∑ k, b (ix2 r k) * wb (ix2 k n)) := by
  unfold xG
  pointwise [k0_pay4]

theorem hG_at (r : Fin 256) (n : Fin 1024) : (hG a wa wb b x gm sh sc gg (ix2 r n) : EReal)
    = modNorm (fun e => xG a wa wb b x gm (ix2 r e)) (fun e => gg (ix2 0 e)) (fun e => sh (ix4 0 0 0 e)) (fun e => sc (ix4 0 0 0 e)) n := by
  unfold hG modNorm xG
  generalize hx : k0_pay4 a wa b wb x gm = v
  pointwise [k0_pay9, k0_pay5, k0_pay6, k0_pay7, k0_pay8, hx]

variable (h : FVec Ideal S256x1024 .bf16) (w : Vec Ideal S1024x256 .bf16) (g : Vec Ideal S1x128 .f32) (cs sn : Vec Ideal S256x128 .f32)

/-- The first and the second head of 256 columns, normed and turned. -/
def headLo : FVec Ideal S256x128 .bf16 := k0_pay43 (k0_pay11 sn) (k0_pay41 h w g) (k0_pay42 h (k0_pay10 cs) w g) 64#32
def headHi : FVec Ideal S256x128 .bf16 := k0_pay44 (k0_pay10 cs) (k0_pay11 sn) (k0_pay40 h w) g

/-- The same times the scale of the queries. -/
def qLo : FVec Ideal S256x128 .bf16 := k0_pay31 h (k0_pay10 cs) (k0_pay11 sn) w g
def qHi : FVec Ideal S256x128 .bf16 := k0_pay39 (k0_pay10 cs) (k0_pay11 sn) (k0_pay38 h w) g

/-- The scale of the queries, as named. -/
def qs : EReal := Named.named (F := Ideal) κ "q_scale" (φ := .f32) 0x3E0293EE#32

/-- The two halves of 256 columns, and all of them. -/
def colsLo : FVec Ideal S256x128 .bf16 := k0_pay47 h w
def colsHi : FVec Ideal S256x128 .bf16 := k0_pay49 (k0_pay45 h w)
def cols : FVec Ideal S256x256 .bf16 := k0_pay51 h w

/-- Ones. -/
def onesG : FVec Ideal S256x128 .bf16 := k0_pay46

theorem headLo_at (r : Fin 256) (d : Fin 128) : (headLo h w g cs sn (ix2 r d) : EReal)
    = turn (headNorm (fun d => ∑ e, h (ix2 r e) * w (ix2 e ⟨d.val, by omega⟩)) (fun d => g (ix2 0 d))) (fun d => cs (ix2 r d)) (fun d => sn (ix2 r d)) d := by
  unfold headLo turn headNorm half
  pointwise [k0_pay43, k0_pay11, k0_pay41, k0_pay42, k0_pay10, k0_pay40]

theorem headHi_at (r : Fin 256) (d : Fin 128) : (headHi h w g cs sn (ix2 r d) : EReal)
    = turn (headNorm (fun d => ∑ e, h (ix2 r e) * w (ix2 e ⟨128 + d.val, by omega⟩)) (fun d => g (ix2 0 d))) (fun d => cs (ix2 r d)) (fun d => sn (ix2 r d)) d := by
  unfold headHi turn headNorm half
  pointwise [k0_pay44, k0_pay11, k0_pay10, k0_pay40]

theorem qLo_at (r : Fin 256) (d : Fin 128) : (qLo h w g cs sn (ix2 r d) : EReal)
    = turn (headNorm (fun d => ∑ e, h (ix2 r e) * w (ix2 e ⟨d.val, by omega⟩)) (fun d => g (ix2 0 d))) (fun d => cs (ix2 r d)) (fun d => sn (ix2 r d)) d * qs := by
  unfold qLo turn headNorm half qs
  pointwise [k0_pay31, k0_pay11, k0_pay10, k0_pay30]

theorem qHi_at (r : Fin 256) (d : Fin 128) : (qHi h w g cs sn (ix2 r d) : EReal)
    = turn (headNorm (fun d => ∑ e, h (ix2 r e) * w (ix2 e ⟨128 + d.val, by omega⟩)) (fun d => g (ix2 0 d))) (fun d => cs (ix2 r d)) (fun d => sn (ix2 r d)) d * qs := by
  unfold qHi turn headNorm half qs
  pointwise [k0_pay39, k0_pay11, k0_pay10, k0_pay38, k0_pay36]

theorem colsLo_at (r : Fin 256) (d : Fin 128) : (colsLo h w (ix2 r d) : EReal) = ∑ e, h (ix2 r e) * w (ix2 e ⟨d.val, by omega⟩) := by
  unfold colsLo
  pointwise [k0_pay47, k0_pay45]

theorem colsHi_at (r : Fin 256) (d : Fin 128) : (colsHi h w (ix2 r d) : EReal) = ∑ e, h (ix2 r e) * w (ix2 e ⟨128 + d.val, by omega⟩) := by
  unfold colsHi
  pointwise [k0_pay49, k0_pay45]

theorem cols_at (r : Fin 256) (d : Fin 256) : (cols h w (ix2 r d) : EReal) = ∑ e, h (ix2 r e) * w (ix2 e d) := by
  unfold cols
  pointwise [k0_pay51]

theorem onesG_at (r : Fin 256) (d : Fin 128) : (onesG (ix2 r d) : EReal) = 1 := by
  unfold onesG
  pointwise [k0_pay46]

end Vectors

end Cert.MidIdeal.Proj

end
-- ==== Proof.MidBlock.lean ====
/-
  A point's block of the mid-block: the rows after the residual, their modulated norm, the projection and its heads, each at an
  index of the block; and the same in a group of 256 rows, its operands loaded from the block.
-/
module

public import proofs.«01_k».proof.Proof.MidVec

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

/-- The rows of a point's block after the residual. -/
def xB (r : Fin 512) (n : Fin 1024) : EReal :=
  xx (ix2 r n) + gm (ix4 0 0 0 ⟨2048 + n.val, by omega⟩) * (∑ k : Fin 512, cy (ix2 k r) * wa (ix2 k n) + ∑ k : Fin 512, ry (ix2 r k) * wb (ix2 k n))

/-- Their modulated norm. -/
def hB (r : Fin 512) : Fin 1024 → EReal :=
  modNorm (xB xx cy ry gm wa wb r) (fun e => gg (ix2 0 e)) (fun e => nm (ix4 0 0 0 ⟨e.val, by omega⟩)) (fun e => nm (ix4 0 0 0 ⟨1024 + e.val, by omega⟩))

/-- The projection of the row, a column of it. -/
def zB (r : Fin 512) (n : Fin 2560) : EReal := ∑ e, hB xx cy ry gm nm wa wb gg r e * wi (ix2 e n)

/-- The head at a block of 128 columns, normed with a gain and turned. -/
def headB (g : Vec Ideal S1x128 .f32) (r : Fin 512) (j : Fin 20) (d : Fin 128) : EReal :=
  turn (headNorm (fun d => zB xx cy ry gm nm wa wb gg wi r ⟨128 * j.val + d.val, by omega⟩) (fun d => g (ix2 0 d)))
    (fun d => cs (ix2 r d)) (fun d => sn (ix2 r d)) d

theorem xG_ld (o : ℕ) (hA : ∀ i, (![0, o] : Fin 2 → ℕ) i + (![512, 256] : Fin 2 → ℕ) i ≤ S512x512.size i)
    (hR : ∀ i, (![o, 0] : Fin 2 → ℕ) i + (![256, 512] : Fin 2 → ℕ) i ≤ S512x512.size i) (hX : ∀ i, (![o, 0] : Fin 2 → ℕ) i + (![256, 1024] : Fin 2 → ℕ) i ≤ S512x1024.size i)
    (hG' : ∀ i, (![0, 0, 0, 2048] : Fin 4 → ℕ) i + (![1, 1, 1, 1024] : Fin 4 → ℕ) i ≤ S1x1x1x3072.size i)
    (r : Fin 256) (R : Fin 512) (hr : R.val = o + r.val) (n : Fin 1024) :
    (xG (View.ld (Val := Elt Ideal) (e' := .bf16) cy (Rect.unit ![0, o] ![512, 256] hA)) wa wb (View.ld (Val := Elt Ideal) (e' := .bf16) ry (Rect.unit ![o, 0] ![256, 512] hR)) (View.ld (Val := Elt Ideal) (e' := .f32) xx (Rect.unit ![o, 0] ![256, 1024] hX)) (View.ld (Val := Elt Ideal) (e' := .f32) gm (Rect.unit ![0, 0, 0, 2048] ![1, 1, 1, 1024] hG')) (ix2 r n) : EReal) = xB xx cy ry gm wa wb R n := by
  rw [xG_at]
  refine congrArg₂ (fun a b : EReal => a + b) (ld2 xx hX r n R n hr (by omega)) (congrArg₂ (fun a b : EReal => a * b) (ld4 gm hG' n _ rfl)
    (congrArg₂ (fun a b : EReal => a + b) (Finset.sum_congr rfl fun k _ => congrArg (fun a : EReal => a * wa (ix2 k n)) (ld2 cy hA k r k R (by omega) hr))
      (Finset.sum_congr rfl fun k _ => congrArg (fun a : EReal => a * wb (ix2 k n)) (ld2 ry hR r k R k hr (by omega)))))

theorem hG_ld (o : ℕ) (hA : ∀ i, (![0, o] : Fin 2 → ℕ) i + (![512, 256] : Fin 2 → ℕ) i ≤ S512x512.size i)
    (hR : ∀ i, (![o, 0] : Fin 2 → ℕ) i + (![256, 512] : Fin 2 → ℕ) i ≤ S512x512.size i) (hX : ∀ i, (![o, 0] : Fin 2 → ℕ) i + (![256, 1024] : Fin 2 → ℕ) i ≤ S512x1024.size i)
    (hS : ∀ i, (![0, 0, 0, 0] : Fin 4 → ℕ) i + (![1, 1, 1, 1024] : Fin 4 → ℕ) i ≤ S1x1x1x3072.size i)
    (hC : ∀ i, (![0, 0, 0, 1024] : Fin 4 → ℕ) i + (![1, 1, 1, 1024] : Fin 4 → ℕ) i ≤ S1x1x1x3072.size i)
    (hG' : ∀ i, (![0, 0, 0, 2048] : Fin 4 → ℕ) i + (![1, 1, 1, 1024] : Fin 4 → ℕ) i ≤ S1x1x1x3072.size i)
    (r : Fin 256) (R : Fin 512) (hr : R.val = o + r.val) (n : Fin 1024) :
    (hG (View.ld (Val := Elt Ideal) (e' := .bf16) cy (Rect.unit ![0, o] ![512, 256] hA)) wa wb (View.ld (Val := Elt Ideal) (e' := .bf16) ry (Rect.unit ![o, 0] ![256, 512] hR)) (View.ld (Val := Elt Ideal) (e' := .f32) xx (Rect.unit ![o, 0] ![256, 1024] hX)) (View.ld (Val := Elt Ideal) (e' := .f32) gm (Rect.unit ![0, 0, 0, 2048] ![1, 1, 1, 1024] hG')) (View.ld (Val := Elt Ideal) (e' := .f32) nm (Rect.unit ![0, 0, 0, 0] ![1, 1, 1, 1024] hS)) (View.ld (Val := Elt Ideal) (e' := .f32) nm (Rect.unit ![0, 0, 0, 1024] ![1, 1, 1, 1024] hC)) gg (ix2 r n) : EReal) = hB xx cy ry gm nm wa wb gg R n := by
  rw [hG_at]
  unfold hB
  congr 1
  · exact funext fun e => xG_ld xx cy ry gm wa wb o hA hR hX hG' r R hr e
  · exact funext fun e => ld4 nm hS e _ (by simp)
  · exact funext fun e => ld4 nm hC e _ rfl

/-- A column of the projection of a group, its weights loaded from column `p` on. -/
theorem z_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i) (d : Fin 256) (D : Fin 2560) (hD : D.val = p + d.val) :
    (∑ e, h (ix2 r e) * (View.ld (Val := Elt Ideal) (e' := .bf16) wi (Rect.unit ![0, p] ![1024, 256] hW)) (ix2 e d) : EReal) = zB xx cy ry gm nm wa wb gg wi R D :=
  Finset.sum_congr rfl fun e _ => congrArg₂ (fun a b : EReal => a * b) (hh e) (ld2 wi hW e d e D (by omega) hD)

end Cert.MidIdeal.Proj

end
-- ==== Proof.MidHeads.lean ====
/-
  The heads and the columns of a group, their operands loaded from the point's block.
-/
module

public import proofs.«01_k».proof.Proof.MidBlock

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

theorem headLo_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (g : Vec Ideal S1x128 .f32) (o : ℕ) (hT : ∀ i, (![o, 0] : Fin 2 → ℕ) i + (![256, 128] : Fin 2 → ℕ) i ≤ S512x128.size i) (hr : R.val = o + r.val)
    (d : Fin 128) (j : Fin 20) (D : Fin 128) (hD : D.val = d.val) (hj : p = 128 * j.val) :
    (headLo h (View.ld (Val := Elt Ideal) (e' := .bf16) wi (Rect.unit ![0, p] ![1024, 256] hW)) g (View.ld (Val := Elt Ideal) (e' := .f32) cs (Rect.unit ![o, 0] ![256, 128] hT)) (View.ld (Val := Elt Ideal) (e' := .f32) sn (Rect.unit ![o, 0] ![256, 128] hT)) (ix2 r d) : EReal) = headB xx cy ry gm nm wa wb gg wi cs sn g R j D := by
  obtain rfl : D = d := Fin.ext hD
  rw [headLo_at]
  unfold headB
  skip
  congr 1
  · exact congrArg (fun z => headNorm z _) (funext fun d => z_ld xx cy ry gm nm wa wb gg wi h r R hh p hW _ _ (by first | omega | (simp; omega)))
  · exact funext fun d => ld2 cs hT r d R d hr (by omega)
  · exact funext fun d => ld2 sn hT r d R d hr (by omega)

theorem headHi_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (g : Vec Ideal S1x128 .f32) (o : ℕ) (hT : ∀ i, (![o, 0] : Fin 2 → ℕ) i + (![256, 128] : Fin 2 → ℕ) i ≤ S512x128.size i) (hr : R.val = o + r.val)
    (d : Fin 128) (j : Fin 20) (D : Fin 128) (hD : D.val = d.val) (hj : p + 128 = 128 * j.val) :
    (headHi h (View.ld (Val := Elt Ideal) (e' := .bf16) wi (Rect.unit ![0, p] ![1024, 256] hW)) g (View.ld (Val := Elt Ideal) (e' := .f32) cs (Rect.unit ![o, 0] ![256, 128] hT)) (View.ld (Val := Elt Ideal) (e' := .f32) sn (Rect.unit ![o, 0] ![256, 128] hT)) (ix2 r d) : EReal) = headB xx cy ry gm nm wa wb gg wi cs sn g R j D := by
  obtain rfl : D = d := Fin.ext hD
  rw [headHi_at]
  unfold headB
  skip
  congr 1
  · exact congrArg (fun z => headNorm z _) (funext fun d => z_ld xx cy ry gm nm wa wb gg wi h r R hh p hW _ _ (by first | omega | (simp; omega)))
  · exact funext fun d => ld2 cs hT r d R d hr (by omega)
  · exact funext fun d => ld2 sn hT r d R d hr (by omega)

theorem qLo_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (g : Vec Ideal S1x128 .f32) (o : ℕ) (hT : ∀ i, (![o, 0] : Fin 2 → ℕ) i + (![256, 128] : Fin 2 → ℕ) i ≤ S512x128.size i) (hr : R.val = o + r.val)
    (d : Fin 128) (j : Fin 20) (D : Fin 128) (hD : D.val = d.val) (hj : p = 128 * j.val) :
    (qLo h (View.ld (Val := Elt Ideal) (e' := .bf16) wi (Rect.unit ![0, p] ![1024, 256] hW)) g (View.ld (Val := Elt Ideal) (e' := .f32) cs (Rect.unit ![o, 0] ![256, 128] hT)) (View.ld (Val := Elt Ideal) (e' := .f32) sn (Rect.unit ![o, 0] ![256, 128] hT)) (ix2 r d) : EReal) = headB xx cy ry gm nm wa wb gg wi cs sn g R j D * qs := by
  obtain rfl : D = d := Fin.ext hD
  rw [qLo_at]
  unfold headB
  refine congrArg (fun a : EReal => a * qs) ?_
  congr 1
  · exact congrArg (fun z => headNorm z _) (funext fun d => z_ld xx cy ry gm nm wa wb gg wi h r R hh p hW _ _ (by first | omega | (simp; omega)))
  · exact funext fun d => ld2 cs hT r d R d hr (by omega)
  · exact funext fun d => ld2 sn hT r d R d hr (by omega)

theorem qHi_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (g : Vec Ideal S1x128 .f32) (o : ℕ) (hT : ∀ i, (![o, 0] : Fin 2 → ℕ) i + (![256, 128] : Fin 2 → ℕ) i ≤ S512x128.size i) (hr : R.val = o + r.val)
    (d : Fin 128) (j : Fin 20) (D : Fin 128) (hD : D.val = d.val) (hj : p + 128 = 128 * j.val) :
    (qHi h (View.ld (Val := Elt Ideal) (e' := .bf16) wi (Rect.unit ![0, p] ![1024, 256] hW)) g (View.ld (Val := Elt Ideal) (e' := .f32) cs (Rect.unit ![o, 0] ![256, 128] hT)) (View.ld (Val := Elt Ideal) (e' := .f32) sn (Rect.unit ![o, 0] ![256, 128] hT)) (ix2 r d) : EReal) = headB xx cy ry gm nm wa wb gg wi cs sn g R j D * qs := by
  obtain rfl : D = d := Fin.ext hD
  rw [qHi_at]
  unfold headB
  refine congrArg (fun a : EReal => a * qs) ?_
  congr 1
  · exact congrArg (fun z => headNorm z _) (funext fun d => z_ld xx cy ry gm nm wa wb gg wi h r R hh p hW _ _ (by first | omega | (simp; omega)))
  · exact funext fun d => ld2 cs hT r d R d hr (by omega)
  · exact funext fun d => ld2 sn hT r d R d hr (by omega)

theorem colsLo_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (d : Fin 128) (D : Fin 2560) (hD : D.val = p + d.val) : (colsLo h (View.ld (Val := Elt Ideal) (e' := .bf16) wi (Rect.unit ![0, p] ![1024, 256] hW)) (ix2 r d) : EReal) = zB xx cy ry gm nm wa wb gg wi R D := by
  rw [colsLo_at]
  exact z_ld xx cy ry gm nm wa wb gg wi h r R hh p hW _ D (by first | omega | (simp; omega))

theorem colsHi_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (d : Fin 128) (D : Fin 2560) (hD : D.val = p + 128 + d.val) : (colsHi h (View.ld (Val := Elt Ideal) (e' := .bf16) wi (Rect.unit ![0, p] ![1024, 256] hW)) (ix2 r d) : EReal) = zB xx cy ry gm nm wa wb gg wi R D := by
  rw [colsHi_at]
  exact z_ld xx cy ry gm nm wa wb gg wi h r R hh p hW _ D (by first | omega | (simp; omega))

theorem cols_ld (h : FVec Ideal S256x1024 .bf16) (r : Fin 256) (R : Fin 512) (hh : ∀ e, (h (ix2 r e) : EReal) = hB xx cy ry gm nm wa wb gg R e)
    (p : ℕ) (hW : ∀ i, (![0, p] : Fin 2 → ℕ) i + (![1024, 256] : Fin 2 → ℕ) i ≤ S1024x2560.size i)
    (d : Fin 256) (D : Fin 2560) (hD : D.val = p + d.val) : (cols h (View.ld (Val := Elt Ideal) (e' := .bf16) wi (Rect.unit ![0, p] ![1024, 256] hW)) (ix2 r d) : EReal) = zB xx cy ry gm nm wa wb gg wi R D := by
  rw [cols_at]
  exact z_ld xx cy ry gm nm wa wb gg wi h r R hh p hW _ D (by first | omega | (simp; omega))

end Cert.MidIdeal.Proj

end
-- ==== Proof.MidSpell.lean ====
/-
  The spellings of the vectors of a group in the payloads of the mid-block: the kernel's statements are cut at other places for
  every head and for either group of rows, and every spelling is the one vector of its operands.
-/
module

public import proofs.«01_k».proof.Proof.MidVec

@[expose] public section

set_option maxRecDepth 16384

noncomputable section

open Idealize.ShloMosaic Idealize.ShloMosaic.TcCoe Idealize.SL.Sem

namespace Cert.MidIdeal.Proj

open Cert.MidIdeal Cert.MidIdeal.Gen

variable (a : Vec Ideal S512x256 .bf16) (wa wb : Vec Ideal S512x1024 .bf16) (b : Vec Ideal S256x512 .bf16)
  (x : Vec Ideal S256x1024 .f32) (gm sh sc : Vec Ideal S1x1x1x1024 .f32) (gg : Vec Ideal S1x1024 .f32)
  (h : FVec Ideal S256x1024 .bf16) (w : Vec Ideal S1024x256 .bf16) (g : Vec Ideal S1x128 .f32) (c s : Vec Ideal S256x128 .f32)
  (v0 : FVec Ideal S256x1024 .f32) (v1 v2 v3 : FVec Ideal S1x1024 .f32) (v4 : FVec Ideal S256x1 .f32)

theorem q0_eq : k0_pay15 (k0_pay13 v0 v1 v2 v3 v4 c s w g) k0_pay14 = qLo (k0_pay9 v0 v1 v2 v3 v4) w g c s := rfl

theorem q1_eq : k0_pay16 (k0_pay10 c) (k0_pay11 s) (k0_pay12 v0 v1 v2 v3 v4 w) g = qHi (k0_pay9 v0 v1 v2 v3 v4) w g c s := rfl

theorem q2_eq : k0_pay21 (k0_pay10 c) (k0_pay11 s) (k0_pay18 h w) (k0_pay19 g) (k0_pay20 h w) = qLo h w g c s := rfl

theorem q3_eq : k0_pay22 (k0_pay10 c) (k0_pay11 s) (k0_pay17 h w) g = qHi h w g c s := rfl

theorem q4_eq : k0_pay31 h (k0_pay10 c) (k0_pay11 s) w g = qLo h w g c s := rfl

theorem q5_eq : k0_pay35 (k0_pay10 c) (k0_pay11 s) (k0_pay32 h w) (k0_pay33 g) (k0_pay34 h w) (FloatOps.ofBits FTy.f32 897988541#32) = qHi h w g c s := rfl

theorem q6_eq : k0_pay37 h (k0_pay10 c) (k0_pay11 s) w g = qLo h w g c s := rfl

theorem q7_eq : k0_pay39 (k0_pay10 c) (k0_pay11 s) (k0_pay38 h w) g = qHi h w g c s := rfl

theorem q8_eq : k0_pay59 h c s w g = qLo h w g c s := rfl

theorem q9_eq : k0_pay63 (k0_pay56 c) (k0_pay57 s) (k0_pay60 h w) (k0_pay61 g) (k0_pay62 h w) = qHi h w g c s := rfl

theorem q10_eq : k0_pay66 (k0_pay65 h (k0_pay56 c) (k0_pay57 s) w g) = qLo h w g c s := rfl

theorem q11_eq : k0_pay67 (k0_pay56 c) (k0_pay57 s) (k0_pay64 h w) g = qHi h w g c s := rfl

theorem q12_eq : k0_pay72 (k0_pay56 c) (k0_pay57 s) (k0_pay69 h w) (k0_pay70 g) (k0_pay71 h w) = qLo h w g c s := rfl

theorem q13_eq : k0_pay73 (k0_pay56 c) (k0_pay57 s) (k0_pay68 h w) g = qHi h w g c s := rfl

theorem q14_eq : k0_pay76 (k0_pay56 c) (k0_pay57 s) (k0_pay75 h w) g = qLo h w g c s := rfl

theorem q15_eq : k0_pay77 (k0_pay56 c) (k0_pay57 s) (k0_pay74 h w) g = qHi h w g c s := rfl

theorem k0_eq : k0_pay43 (k0_pay11 s) (k0_pay41 h w g) (k0_pay42 h (k0_pay10 c) w g) 64#32 = headLo h w g c s := rfl

theorem k1_eq : k0_pay44 (k0_pay10 c) (k0_pay11 s) (k0_pay40 h w) g = headHi h w g c s := rfl

theorem k2_eq : k0_pay79 h (k0_pay56 c) (k0_pay57 s) w g = headLo h w g c s := rfl

theorem k3_eq : k0_pay82 (k0_pay57 s) (k0_pay80 h w g) (k0_pay81 h (k0_pay56 c) w g) 64#32 = headHi h w g c s := rfl

theorem v0_eq : k0_pay47 h w = colsLo h w := rfl

theorem v1_eq : k0_pay49 (k0_pay45 h w) = colsHi h w := rfl

theorem v2_eq : k0_pay85 h w = colsLo h w := rfl

theorem v3_eq : k0_pay87 h w = colsHi h w := rfl

theorem one0_eq : k0_pay48 (F := Ideal) k0_pay46 = onesG := rfl

theorem one1_eq : k0_pay50 (F := Ideal) k0_pay46 = onesG := rfl

theorem one2_eq : k0_pay86 (F := Ideal) = onesG := rfl

theorem one3_eq : k0_pay88 (F := Ideal) = onesG := rfl

theorem g0_eq : k0_pay51 h w = cols h w := rfl

theorem g1_eq : k0_pay52 h w = cols h w := rfl

theorem g2_eq : k0_pay53 h w = cols h w := rfl

theorem g3_eq : k0_pay55 h (k0_pay54 w) (constant S256x256 .f32 0x00000000#32) = cols h w := rfl

theorem g4_eq : k0_pay89 h w = cols h w := rfl

theorem g5_eq : k0_pay1 h w = cols h w := rfl

theorem g6_eq : k0_pay2 h w = cols h w := rfl

theorem g7_eq : k0_pay3 h w = cols h w := rfl

theorem h0_eq : k0_pay9 (k0_pay4 a wa b wb x gm) (k0_pay5 gg) (k0_pay6 sh) (k0_pay7 sc) (k0_pay8 a wa b wb x gm) = hG a wa wb b x gm sh sc gg := rfl

theorem h1_eq : k0_pay29 (k0_pay26 sh) (k0_pay27 sc) (k0_pay28 (k0_pay23 a) (k0_pay24 wa) (constant S256x1024 .f32 0x00000000#32) b wb x gm gg) = hG a wa wb b x gm sh sc gg := rfl

theorem x0_eq : k0_pay4 a wa b wb x gm = xG a wa wb b x gm := rfl

theorem x1_eq : k0_pay25 (k0_pay23 a) (k0_pay24 wa) (constant S256x1024 .f32 0x00000000#32) b wb x gm = xG a wa wb b x gm := rfl

end Cert.MidIdeal.Proj

end
-- ==== Proof.MidOut13.lean ====
/-
  A point's block of the rows after the residual, at an index, from its pieces.
-/
module

public import proofs.«01_k».proof.Proof.MidHeads
public import proofs.«01_k».proof.Proof.MidSpell
public import proofs.«01_k».proof.Proof.Gen.MidIdeal.Value
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

attribute [local irreducible] qLo qHi headLo headHi colsLo colsHi cols onesG hG xG headB zB

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

theorem out13_at (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x1x1x3072 .f32) (harg5 : arg5.IsWhole) (arg6 : Memref sig .tc .vmem S1x1x1x3072 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x256 .bf16) (harg17 : arg17.IsWhole) (arg18 : Memref sig .tc .vmem S512x512 .bf16) (harg18 : arg18.IsWhole) (arg19 : Memref sig .tc .vmem S512x1024 .bf16) (harg19 : arg19.IsWhole) (y : S512x1024.Idx) :
    (out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xx cy ry gm nm wa wb gg wi qg kg cs sn y : EReal) = xB xx cy ry gm wa wb (y 0) (y 1) := by
  frame_out
  canon_tiles y
  all_goals
    simp only [x0_eq, x1_eq]
    idx_vars y
    refine (xG_ld xx cy ry gm wa wb _ _ _ _ _ y0 (y 0) (by omega) y1).trans (congrArg (xB xx cy ry gm wa wb (y 0)) (Fin.ext h1.symm))

end Cert.MidIdeal.Proj

end
-- ==== Proof.MidArray.lean ====
/-
  The blocks of the mid-block's kernel: point `t` of the grid has rows `512 t … 512 t + 511`, of batch `t / 4`.
-/
module

public import proofs.«01_k».proof.Proof.Gen.MidIdeal.Value
public import Idealize.ShloMosaic.Lib.Pipeline.ValueKit

@[expose] public section

set_option maxRecDepth 16384

noncomputable section

open Idealize.ShloMosaic Idealize.ShloMosaic.TcCoe Idealize.SL.Sem

namespace Cert.MidIdeal.Proj

open Cert.MidIdeal Cert.MidIdeal.Gen

variable (m : (ℓ : Loc nD τ sig) → Buf (Elt Ideal) ℓ) (c : Dev nD)

theorem idx : ∀ t : Fin cfg0.N, win0_0.index t = ![t.val, 0] ∧ win0_1.index t = ![0, t.val] ∧ win0_2.index t = ![t.val, 0] ∧ win0_3.index t = ![0, t.val / 4, 0, 0] ∧ win0_4.index t = ![1, t.val / 4, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val % 4, 0] ∧ win0_12.index t = ![t.val % 4, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

theorem lt_N (t : Fin cfg0.N) : t.val < 128 := t.isLt
theorem rlt (t : Fin cfg0.N) (r : Fin 512) : t.val * 512 + r.val < 65536 := by have := lt_N t; omega

theorem blk0 (t : Fin cfg0.N) (r : Fin 512) (n : Fin 1024) : iblk m c 0 t (ix2 r n) = V m c main_v88 (ix2 ⟨t.val * 512 + r.val, rlt t r⟩ n) := by
  blk_ext [iblk, idx t]
theorem blk1 (t : Fin cfg0.N) (k r : Fin 512) : iblk m c 1 t (ix2 k r) = V m c main_v2 (ix2 k ⟨t.val * 512 + r.val, rlt t r⟩) := by
  blk_ext [iblk, idx t]
theorem blk2 (t : Fin cfg0.N) (r k : Fin 512) : iblk m c 2 t (ix2 r k) = V m c main_v4 (ix2 ⟨t.val * 512 + r.val, rlt t r⟩ k) := by
  blk_ext [iblk, idx t]
theorem blk3 (t : Fin cfg0.N) (n : Fin 3072) : iblk m c 3 t (ix4 0 0 0 n) = V m c main_arg3 (ix4 0 ⟨t.val / 4, by have := lt_N t; omega⟩ 0 n) := by
  blk_ext [iblk, idx t]
theorem blk4 (t : Fin cfg0.N) (n : Fin 3072) : iblk m c 4 t (ix4 0 0 0 n) = V m c main_arg3 (ix4 1 ⟨t.val / 4, by have := lt_N t; omega⟩ 0 n) := by
  blk_ext [iblk, idx t]
theorem blk5 (t : Fin cfg0.N) (k : Fin 512) (n : Fin 1024) : iblk m c 5 t (ix2 k n) = V m c main_v6 (ix2 k n) := by
  blk_ext [iblk, idx t]
theorem blk6 (t : Fin cfg0.N) (k : Fin 512) (n : Fin 1024) : iblk m c 6 t (ix2 k n) = V m c main_v8 (ix2 k n) := by
  blk_ext [iblk, idx t]
theorem blk7 (t : Fin cfg0.N) (n : Fin 1024) : iblk m c 7 t (ix2 0 n) = V m c main_v89 (ix2 0 n) := by
  blk_ext [iblk, idx t]
theorem blk8 (t : Fin cfg0.N) (e : Fin 1024) (n : Fin 2560) : iblk m c 8 t (ix2 e n) = V m c main_v38 (ix2 e n) := by
  blk_ext [iblk, idx t]
theorem blk9 (t : Fin cfg0.N) (d : Fin 128) : iblk m c 9 t (ix2 0 d) = V m c main_v46 (ix2 0 d) := by
  blk_ext [iblk, idx t]
theorem blk10 (t : Fin cfg0.N) (d : Fin 128) : iblk m c 10 t (ix2 0 d) = V m c main_v54 (ix2 0 d) := by
  blk_ext [iblk, idx t]
theorem blk11 (t : Fin cfg0.N) (r : Fin 512) (d : Fin 128) : iblk m c 11 t (ix2 r d) = V m c main_v85 (ix2 ⟨t.val % 4 * 512 + r.val, by omega⟩ d) := by
  blk_ext [iblk, idx t]
theorem blk12 (t : Fin cfg0.N) (r : Fin 512) (d : Fin 128) : iblk m c 12 t (ix2 r d) = V m c main_v87 (ix2 ⟨t.val % 4 * 512 + r.val, by omega⟩ d) := by
  blk_ext [iblk, idx t]

theorem emb13 (t : Fin cfg0.N) (r : Fin 512) (n : Fin 1024) :
    (win0_13.blk t).view.emb (ix2 r n) = (ix2 ⟨t.val * 512 + r.val, rlt t r⟩ n : S65536x1024.Idx) := by
  blk_ext [idx t]
theorem emb14 (t : Fin cfg0.N) (r : Fin 512) (n : Fin 1024) :
    (win0_14.blk t).view.emb (ix2 r n) = (ix2 ⟨t.val * 512 + r.val, rlt t r⟩ n : S65536x1024.Idx) := by
  blk_ext [idx t]
theorem emb15 (t : Fin cfg0.N) (r : Fin 512) (n : Fin 256) :
    (win0_15.blk t).view.emb (ix2 r n) = (ix2 ⟨t.val * 512 + r.val, rlt t r⟩ n : S65536x256.Idx) := by
  blk_ext [idx t]
theorem emb16 (t : Fin cfg0.N) (r : Fin 512) (n : Fin 512) :
    (win0_16.blk t).view.emb (ix2 r n) = (ix2 ⟨t.val * 512 + r.val, rlt t r⟩ n : S65536x512.Idx) := by
  blk_ext [idx t]
theorem emb17 (t : Fin cfg0.N) (r : Fin 512) (n : Fin 1024) :
    (win0_17.blk t).view.emb (ix2 r n) = (ix2 ⟨t.val * 512 + r.val, rlt t r⟩ n : S65536x1024.Idx) := by
  blk_ext [idx t]

end Cert.MidIdeal.Proj

end
-- ==== Proof.MidPerm.lean ====
/-
  The order of the features of the query and key heads in the mid-block's kernel, and the weights and gains in that order.
-/
module

public import proofs.«01_k».proof.Proof.MidRow
public import proofs.«01_k».proof.Proof.Gen.MidIdeal.Launch
public import Idealize.ShloMosaic.Lib.Pointwise
public import Idealize.ShloMosaic.Lib.Pipeline.ValueKit
public import Idealize.ShloMosaic.Lib.ValueIdxCore
public import Idealize.ShloMosaic.Lib.Tactic.WordOmega

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

/-- The feature of a head a place of the kernel's order holds: the even ones before the odd ones. -/
def fold (d : Fin 128) : Fin 128 := if h : d.val < 64 then ⟨d.val * 2, by omega⟩ else ⟨(d.val - 64) * 2 + 1, by omega⟩

theorem fold_val (d : Fin 128) : (fold d).val = if d.val < 64 then d.val * 2 else (d.val - 64) * 2 + 1 := by
  unfold fold; split <;> rfl

theorem gain_gather (x : FVec Ideal S128 .f32) (idx : IVec S128x1 32) (d : Fin 128) :
    Host.gather gather_S128_S128x1_S128_n_0_n_n_0_1_1 x idx (ix1 d) = x (ix1 ⟨min (idx (ix2 d 0)).toInt.toNat 127, by omega⟩) := by
  unfold Host.gather
  congr 1
  funext a
  obtain rfl : a = 0 := Subsingleton.elim _ _
  refine Fin.ext ?_
  show GatherDims.start _ (ix1 d) idx 0 + GatherDims.batchCoord _ (ix1 d) 0 + GatherDims.offCoord _ (ix1 d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S128_S128x1_S128_n_0_n_n_0_1_1.startIndexMap from List.mem_singleton.mpr rfl)]
  have hsi : gather_S128_S128x1_S128_n_0_n_n_0_1_1.siIdx (ix1 d) ⟨List.idxOf (0 : Fin 1) gather_S128_S128x1_S128_n_0_n_n_0_1_1.startIndexMap,
      List.idxOf_lt_length_iff.2 (List.mem_singleton.mpr rfl)⟩ = ix2 d 0 := by
    funext b; refine Fin.ext ?_
    match b with
    | ⟨0, _⟩ => rfl
    | ⟨1, _⟩ => rfl
  rw [hsi]
  rfl

theorem cols_gather (x : FVec Ideal S1024x2560 .f32) (idx : IVec S1280x1 32) (e : Fin 1024) (n : Fin 1280) :
    Host.gather gather_S1024x2560_S1280x1_S1024x1280_0_1_n_n_1_1_10241 x idx (ix2 e n) = x (ix2 e ⟨min (idx (ix2 n 0)).toInt.toNat 2559, by omega⟩) := by
  unfold Host.gather
  congr 1
  funext a
  refine Fin.ext ?_
  show GatherDims.start _ (ix2 e n) idx a + GatherDims.batchCoord _ (ix2 e n) a + GatherDims.offCoord _ (ix2 e n) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · unfold GatherDims.start
    rw [dif_neg (show (0 : Fin 2) ∉ gather_S1024x2560_S1280x1_S1024x1280_0_1_n_n_1_1_10241.startIndexMap from by decide)]
    simp only [Nat.add_zero, Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x2560_S1280x1_S1024x1280_0_1_n_n_1_1_10241.startIndexMap from List.mem_singleton.mpr rfl)]
    have hsi : gather_S1024x2560_S1280x1_S1024x1280_0_1_n_n_1_1_10241.siIdx (ix2 e n) ⟨List.idxOf (1 : Fin 2) gather_S1024x2560_S1280x1_S1024x1280_0_1_n_n_1_1_10241.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl

/-- The order as words. -/
def perm : IVec S128 32 :=
  concatenate S128 0 [⟨S64, addi (broadcastInDim S64 ![] bcast_S_S64 (constantI S_ 32 0#32)) (muli (broadcastInDim S64 ![] bcast_S_S64 (constantI S_ 32 2#32)) (iotaInDim S64 32 0))⟩,
    ⟨S64, addi (broadcastInDim S64 ![] bcast_S_S64 (constantI S_ 32 1#32)) (muli (broadcastInDim S64 ![] bcast_S_S64 (constantI S_ 32 2#32)) (iotaInDim S64 32 0))⟩] concatenates_S64_S64_S128_d0

theorem perm_at (d : Fin 128) : perm (ix1 d) = BitVec.ofNat 32 (fold d).val := by
  rw [fold_val]
  pointwise [perm]
  split
  · unfold IntOp.muli
    word_omega
  · unfold IntOp.muli
    word_omega

def wrap (n : BitVec 32) (p : IVec S128 32) : IVec S128x1 32 :=
  broadcastInDim S128x1 ![0] bcast_S128_S128x1_0 (select (cmpi .slt p (broadcastInDim S128 ![] bcast_S_S128 (constantI S_ 32 0#32))) (addi p (broadcastInDim S128 ![] bcast_S_S128 (constantI S_ 32 n))) p)

/-- A word below the array's size is its own start index. -/
theorem word_start (N n : Nat) (k : BitVec 32) (hN : N < 100000) (h : n ≤ N) :
    min (Scalar.select (IntOp.cmpi .slt (BitVec.ofNat 32 n) 0#32) (IntOp.addi (BitVec.ofNat 32 n) k) (BitVec.ofNat 32 n)).toInt.toNat N = n := by
  have h0 : IntOp.cmpi .slt (BitVec.ofNat 32 n) 0#32 = 0#1 := by word_omega
  rw [h0, show Scalar.select 0#1 (IntOp.addi (BitVec.ofNat 32 n) k) (BitVec.ofNat 32 n) = BitVec.ofNat 32 n from rfl]
  have : (BitVec.ofNat 32 n).toInt = n := by word_omega
  rw [this]
  omega

def gainPrep (g : FVec Ideal S128 .f32) : FVec Ideal S1x128 .f32 :=
  shapeCast S1x128 (Host.gather gather_S128_S128x1_S128_n_0_n_n_0_1_1 g (wrap 128#32 perm)) shapeCasts_S128_S1x128

theorem gainPrep_at (g : FVec Ideal S128 .f32) (d : Fin 128) : (gainPrep g (ix2 0 d) : EReal) = g (ix1 (fold d)) := by
  have hw : wrap 128#32 perm (ix2 d 0) = Scalar.select (IntOp.cmpi .slt (perm (ix1 d)) 0#32) (IntOp.addi (perm (ix1 d)) 128#32) (perm (ix1 d)) := by
    pointwise [wrap]
  pointwise [gainPrep]
  rw [gain_gather]
  congr 2
  refine Fin.ext ?_
  show min _ 127 = _
  rw [hw, perm_at]
  exact word_start 127 _ _ (by norm_num) (by have := (fold d).isLt; omega)

/-- The columns of the query and key heads in the kernel's order, as words. -/
def permCols : IVec S1280 32 :=
  shapeCast S1280 (addi (broadcastInDim S10x128 ![0, 1] bcast_S10x1_S10x128_0_1 (muli (broadcastInDim S10x1 ![0] bcast_S10_S10x1_0 (iotaInDim S10 32 0)) (broadcastInDim S10x1 ![] bcast_S_S10x1 (constantI S_ 32 128#32))))
    (broadcastInDim S10x128 ![0, 1] bcast_S1x128_S10x128_0_1 (broadcastInDim S1x128 ![1] bcast_S128_S1x128_1 perm))) shapeCasts_S10x128_S1280

def wrapCols : IVec S1280x1 32 :=
  broadcastInDim S1280x1 ![0] bcast_S1280_S1280x1_0 (select (cmpi .slt permCols (broadcastInDim S1280 ![] bcast_S_S1280 (constantI S_ 32 0#32))) (addi permCols (broadcastInDim S1280 ![] bcast_S_S1280 (constantI S_ 32 2560#32))) permCols)

def winPrep (w : FVec Ideal S1024x2560 .f32) : FVec Ideal S1024x2560 .bf16 :=
  truncf .bf16 (concatenate S1024x2560 1 [⟨S1024x1280, Host.gather gather_S1024x2560_S1280x1_S1024x1280_0_1_n_n_1_1_10241 w wrapCols⟩,
    ⟨S1024x1280, extractStridedSlice S1024x1280 ![0, 1280] w slices_S1024x2560_S1024x1280_0_1280⟩] concatenates_S1024x1280_S1024x1280_S1024x2560_d1) bitsLt_bf16_f32

/-- The column of the projection a column of the kernel's matrix holds. -/
def col (c : Fin 2560) : Fin 2560 :=
  if h : c.val < 1280 then ⟨c.val / 128 * 128 + (fold ⟨c.val % 128, by omega⟩).val, by have := (fold ⟨c.val % 128, by omega⟩).isLt; omega⟩ else c

theorem word_col (j f : Nat) (hj : j < 10) (hf : f < 128) : IntOp.addi (IntOp.muli (BitVec.ofNat 32 j) 128#32) (BitVec.ofNat 32 f) = BitVec.ofNat 32 (j * 128 + f) := by
  unfold IntOp.muli
  word_omega

theorem permCols_at (j : Fin 10) (d : Fin 128) : permCols (ix1 ⟨j.val * 128 + d.val, by omega⟩) = BitVec.ofNat 32 (j.val * 128 + (fold d).val) := by
  have h := perm_at d
  have hf := (fold d).isLt
  have h2 : permCols (ix1 ⟨j.val * 128 + d.val, by omega⟩) = IntOp.addi (IntOp.muli (BitVec.ofNat 32 j.val) 128#32) (perm (ix1 d)) := by
    pointwise [permCols]
  rw [h2, h]
  exact word_col j.val (fold d).val (by omega) hf

theorem wrapCols_at (n : Fin 1280) : wrapCols (ix2 n 0) = Scalar.select (IntOp.cmpi .slt (permCols (ix1 n)) 0#32) (IntOp.addi (permCols (ix1 n)) 2560#32) (permCols (ix1 n)) := by
  pointwise [wrapCols]

theorem wrapCols_start (j : Fin 10) (d : Fin 128) (n : Fin 1280) (h : n.val = j.val * 128 + d.val) :
    min (wrapCols (ix2 n 0)).toInt.toNat 2559 = j.val * 128 + (fold d).val := by
  rw [wrapCols_at, show n = ⟨j.val * 128 + d.val, by omega⟩ from Fin.ext h, permCols_at]
  have hf := (fold d).isLt
  exact word_start 2559 _ _ (by norm_num) (by omega)

theorem winPrep_lo (w : FVec Ideal S1024x2560 .f32) (e : Fin 1024) (c : Fin 2560) (h : c.val < 1280) :
    (winPrep w (ix2 e c) : EReal) = Host.gather gather_S1024x2560_S1280x1_S1024x1280_0_1_n_n_1_1_10241 w wrapCols (ix2 e ⟨c.val, h⟩) := by
  pointwise [winPrep]
  rw [dif_pos h]

theorem winPrep_hi (w : FVec Ideal S1024x2560 .f32) (e : Fin 1024) (c : Fin 2560) (h : ¬ c.val < 1280) :
    (winPrep w (ix2 e c) : EReal) = w (ix2 e c) := by
  pointwise [winPrep]
  rw [dif_neg h]
  congr 2
  refine Fin.ext ?_
  show _ = c.val
  first | omega | (simp; omega)

theorem winPrep_at (w : FVec Ideal S1024x2560 .f32) (e : Fin 1024) (c : Fin 2560) : (winPrep w (ix2 e c) : EReal) = w (ix2 e (col c)) := by
  unfold col
  by_cases h : c.val < 1280
  · rw [dif_pos h, winPrep_lo w e c h, cols_gather]
    refine congrArg w (congrArg (ix2 e) (Fin.ext ?_))
    exact wrapCols_start ⟨c.val / 128, by omega⟩ ⟨c.val % 128, by omega⟩ ⟨c.val, h⟩ (by show c.val = c.val / 128 * 128 + c.val % 128; omega)
  · rw [dif_neg h, winPrep_hi w e c h]

end Cert.MidIdeal.Proj

end
-- ==== Proof.MidTab.lean ====
/-
  The tables and gains the mid-block's kernel reads, at an index.
-/
module

public import proofs.«01_k».proof.Proof.MidRow
public import proofs.«01_k».proof.Proof.Gen.MidIdeal.Launch
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

/-- The frequencies of the 32 angles. -/
def invK : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles of the 2048 positions. -/
def angK : FVec Ideal S2048x64 .f32 :=
  concatenate S2048x64 1 [⟨S2048x32, (mulf (broadcastInDim S2048x32 ![0, 1] bcast_S2048x1_S2048x32_0_1 (broadcastInDim S2048x1 ![0] bcast_S2048_S2048x1_0 (shapeCast S2048 (broadcastInDim S32x64 ![0] bcast_S32_S32x64_0 (sitofp .f32 (iotaInDim S32 32 0))) shapeCasts_S32x64_S2048))) (broadcastInDim S2048x32 ![0, 1] bcast_S1x32_S2048x32_0_1 (broadcastInDim S1x32 ![1] bcast_S32_S1x32_1 invK)))⟩, ⟨S2048x32, (mulf (broadcastInDim S2048x32 ![0, 1] bcast_S2048x1_S2048x32_0_1 (broadcastInDim S2048x1 ![0] bcast_S2048_S2048x1_0 (shapeCast S2048 (broadcastInDim S32x64 ![0, 1] bcast_S1x64_S32x64_0_1 (shapeCast S1x64 (sitofp .f32 (iotaInDim S64 32 0)) shapeCasts_S64_S1x64)) shapeCasts_S32x64_S2048))) (broadcastInDim S2048x32 ![0, 1] bcast_S1x32_S2048x32_0_1 (broadcastInDim S1x32 ![1] bcast_S32_S1x32_1 invK)))⟩] concatenates_S2048x32_S2048x32_S2048x64_d1

theorem invK_at (e : Fin 32) : (invK (ix1 e) : EReal) = freq e := by
  unfold freq
  pointwise [invK]

theorem angK_at (s : Fin 2048) (e : Fin 64) : (angK (ix2 s e) : EReal) = angle s e := by
  unfold angle
  simp only [← invK_at]
  pointwise [angK]

/-- The table of cosines, and of sines with their signs. -/
def cosPrep : FVec Ideal S2048x128 .f32 :=
  concatenate S2048x128 1 [⟨S2048x64, Host.cos angK⟩, ⟨S2048x64, Host.cos angK⟩] concatenates_S2048x64_S2048x64_S2048x128_d1
def sinPrep : FVec Ideal S2048x128 .f32 :=
  concatenate S2048x128 1 [⟨S2048x64, Host.negf (Host.sin angK)⟩, ⟨S2048x64, Host.sin angK⟩] concatenates_S2048x64_S2048x64_S2048x128_d1

theorem cosPrep_lo (s : Fin 2048) (d : Fin 128) (h : d.val < 64) : (cosPrep (ix2 s d) : EReal) = Ideal.cos (angle s ⟨d.val, h⟩) := by
  simp only [← angK_at]
  pointwise [cosPrep]
  rw [dif_pos h]
theorem cosPrep_hi (s : Fin 2048) (d : Fin 128) (h : ¬ d.val < 64) : (cosPrep (ix2 s d) : EReal) = Ideal.cos (angle s ⟨d.val - 64, by omega⟩) := by
  simp only [← angK_at]
  pointwise [cosPrep]
  rw [dif_neg h]
theorem sinPrep_lo (s : Fin 2048) (d : Fin 128) (h : d.val < 64) : (sinPrep (ix2 s d) : EReal) = -Ideal.sin (angle s ⟨d.val, h⟩) := by
  simp only [← angK_at]
  pointwise [sinPrep]
  rw [dif_pos h]
theorem sinPrep_hi (s : Fin 2048) (d : Fin 128) (h : ¬ d.val < 64) : (sinPrep (ix2 s d) : EReal) = Ideal.sin (angle s ⟨d.val - 64, by omega⟩) := by
  simp only [← angK_at]
  pointwise [sinPrep]
  rw [dif_neg h]

end Cert.MidIdeal.Proj

end
-- ==== Proof.MidPrep.lean ====
/-
  The arrays the mid-block's kernel is given, from the arguments.
-/
module

public import proofs.«01_k».proof.Proof.Prep
public import proofs.«01_k».proof.Proof.Gen.MidIdeal.Value
public import proofs.«01_k».proof.Proof.MidPerm
public import proofs.«01_k».proof.Proof.MidTab
public import Idealize.ShloMosaic.Lib.StableHlo.RunRead

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open StableHlo

variable (m : (ℓ : Loc nD τ sig) → Buf (Elt Ideal) ℓ) (c : Dev nD)

/-- The heads' path, turned. -/
def hyPrep (y : FVec Ideal S32x2048x512 .f32) : FVec Ideal S512x65536 .bf16 :=
  truncf .bf16 (transpose S512x65536 [1, 0] (shapeCast S65536x512 y shapeCasts_S32x2048x512_S65536x512) transposes_S65536x512_S512x65536_1_0) bitsLt_bf16_f32
/-- The retention's path. -/
def retPrep (y : FVec Ideal S32x2048x512 .f32) : FVec Ideal S65536x512 .bf16 :=
  truncf .bf16 (shapeCast S65536x512 y shapeCasts_S32x2048x512_S65536x512) bitsLt_bf16_f32
/-- The halves of the output projection's rows. -/
def waPrep (w : FVec Ideal S1024x1024 .f32) : FVec Ideal S512x1024 .bf16 :=
  truncf .bf16 (extractStridedSlice S512x1024 ![0, 0] w slices_S1024x1024_S512x1024_0_0) bitsLt_bf16_f32
def wbPrep (w : FVec Ideal S1024x1024 .f32) : FVec Ideal S512x1024 .bf16 :=
  truncf .bf16 (extractStridedSlice S512x1024 ![512, 0] w slices_S1024x1024_S512x1024_512_0) bitsLt_bf16_f32

theorem hy_eq : (V m c main_v2 : FVec Ideal S512x65536 .bf16) = hyPrep (m ((c.tc : Thread nD τ).loc main_arg1)) := by
  unfold V hostOps0
  after_reads_simp
  rfl
theorem ret_eq : (V m c main_v4 : FVec Ideal S65536x512 .bf16) = retPrep (m ((c.tc : Thread nD τ).loc main_arg2)) := by
  unfold V hostOps0
  after_reads_simp
  rfl
theorem wa_eq : (V m c main_v6 : FVec Ideal S512x1024 .bf16) = waPrep (m ((c.tc : Thread nD τ).loc main_arg4)) := by
  unfold V hostOps0
  after_reads_simp
  rfl
theorem wb_eq : (V m c main_v8 : FVec Ideal S512x1024 .bf16) = wbPrep (m ((c.tc : Thread nD τ).loc main_arg4)) := by
  unfold V hostOps0
  after_reads_simp
  rfl
theorem mod_eq : (V m c main_arg3 : FVec Ideal S2x40x1x3072 .f32) = m ((c.tc : Thread nD τ).loc main_arg3) := by
  unfold V hostOps0
  after_reads_simp
set_option maxHeartbeats 2000000 in
theorem win_eq : (V m c main_v38 : FVec Ideal S1024x2560 .bf16) = winPrep (m ((c.tc : Thread nD τ).loc main_arg6)) := by
  unfold V hostOps0
  after_reads_simp
  unfold winPrep wrapCols permCols perm
  rfl
theorem qg_eq : (V m c main_v46 : FVec Ideal S1x128 .f32) = gainPrep (m ((c.tc : Thread nD τ).loc main_arg7)) := by
  unfold V hostOps0
  after_reads_simp
  rfl
theorem kg_eq : (V m c main_v54 : FVec Ideal S1x128 .f32) = gainPrep (m ((c.tc : Thread nD τ).loc main_arg8)) := by
  unfold V hostOps0
  after_reads_simp
  rfl
theorem cos_eq : (V m c main_v85 : FVec Ideal S2048x128 .f32) = cosPrep := by
  unfold V hostOps0
  after_reads_simp
  rfl
theorem sin_eq : (V m c main_v87 : FVec Ideal S2048x128 .f32) = sinPrep := by
  unfold V hostOps0
  after_reads_simp
  rfl
theorem x_eq : (V m c main_v88 : FVec Ideal S65536x1024 .f32) = shapeCast S65536x1024 (m ((c.tc : Thread nD τ).loc main_arg0)) shapeCasts_S32x2048x1024_S65536x1024 := by
  unfold V hostOps0
  after_reads_simp
  rfl
theorem gg_eq : (V m c main_v89 : FVec Ideal S1x1024 .f32) = shapeCast S1x1024 (m ((c.tc : Thread nD τ).loc main_arg5)) shapeCasts_S1024_S1x1024 := by
  unfold V hostOps0
  after_reads_simp
  rfl

theorem hyPrep_at (y : FVec Ideal S32x2048x512 .f32) (b : Fin 32) (s : Fin 2048) (k : Fin 512) (R : Fin 65536) (hR : R.val = b.val * 2048 + s.val) :
    hyPrep y (ix2 k R) = y (ix3 b s k) := by
  have h : hyPrep y (ix2 k R) = shapeCast S65536x512 y shapeCasts_S32x2048x512_S65536x512 (ix2 R k) := by
    unfold hyPrep
    rw [Idealize.ShloMosaic.truncf_apply]
    rfl
  rw [h]
  exact Cert.KernelIdeal.Attention.rows_at _ _ b s R k hR
theorem retPrep_at (y : FVec Ideal S32x2048x512 .f32) (b : Fin 32) (s : Fin 2048) (k : Fin 512) (R : Fin 65536) (hR : R.val = b.val * 2048 + s.val) :
    retPrep y (ix2 R k) = y (ix3 b s k) := Cert.KernelIdeal.Attention.rows_at _ _ b s R k hR
theorem waPrep_at (w : FVec Ideal S1024x1024 .f32) (k : Fin 512) (n : Fin 1024) : waPrep w (ix2 k n) = w (ix2 ⟨k.val, by omega⟩ n) := by
  pointwise [waPrep]
theorem wbPrep_at (w : FVec Ideal S1024x1024 .f32) (k : Fin 512) (n : Fin 1024) : wbPrep w (ix2 k n) = w (ix2 ⟨512 + k.val, by omega⟩ n) := by
  pointwise [wbPrep]
theorem gg_at (g : FVec Ideal S1024 .f32) (n : Fin 1024) : shapeCast S1x1024 g shapeCasts_S1024_S1x1024 (ix2 0 n) = g (ix1 n) := by
  pointwise

end Cert.MidIdeal.Proj

end
-- ==== Proof.MidPair.lean ====
/-
  A head's pairs of features turned by the angles of a position, all first ones before the second ones.
-/
module

public import proofs.«01_k».proof.Proof.MidRow

@[expose] public section

set_option maxRecDepth 16384

noncomputable section

open Idealize.ShloMosaic Idealize.ShloMosaic.TcCoe Idealize.SL.Sem

namespace Cert.MidRow

open Cert

/-- The pairs of a head turned. -/
def pair (y : Fin 128 → EReal) (s : Fin 2048) (d : Fin 128) : EReal :=
  if h : d.val < 64 then y ⟨d.val * 2, by omega⟩ * Ideal.cos (angle s ⟨d.val, h⟩) - y ⟨d.val * 2 + 1, by omega⟩ * Ideal.sin (angle s ⟨d.val, h⟩)
  else y ⟨(d.val - 64) * 2, by omega⟩ * Ideal.sin (angle s ⟨d.val - 64, by omega⟩) + y ⟨(d.val - 64) * 2 + 1, by omega⟩ * Ideal.cos (angle s ⟨d.val - 64, by omega⟩)

end Cert.MidRow

end
-- ==== Proof.MidRot.lean ====
/-
  The kernel's turn of a head in its own order of features is the turn of the head's pairs.
-/
module

public import proofs.«01_k».proof.Proof.MidPair
public import proofs.«01_k».proof.Proof.MidPerm
public import proofs.«01_k».proof.Proof.MidTab

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

theorem fold_inj : Function.Injective fold := by
  intro a b h
  have h2 := congrArg Fin.val h
  rw [fold_val, fold_val] at h2
  refine Fin.ext ?_
  have ha := a.isLt
  have hb := b.isLt
  split at h2 <;> split at h2 <;> omega

theorem fold_bij : Function.Bijective fold := Finite.injective_iff_bijective.mp fold_inj

/-- The norm of a head does not see the order of its features. -/
theorem headNorm_fold (z g : Fin 128 → EReal) (d : Fin 128) : headNorm (fun d => z (fold d)) (fun d => g (fold d)) d = headNorm z g (fold d) := by
  unfold headNorm
  rw [Function.Bijective.sum_comp fold_bij (fun e => z e * z e)]

theorem turn_fold (y : Fin 128 → EReal) (s : Fin 2048) (d : Fin 128) :
    turn (fun d => y (fold d)) (fun d => cosPrep (ix2 s d)) (fun d => sinPrep (ix2 s d)) d = pair y s d := by
  unfold turn pair
  by_cases h : d.val < 64
  · show y (fold d) * cosPrep (ix2 s d) + y (fold (half d)) * sinPrep (ix2 s d) = _
    have e1 : fold d = ⟨d.val * 2, by omega⟩ := Fin.ext (by rw [fold_val, if_pos h])
    have hh : (half d).val = d.val + 64 := by show (d.val + 128 - 64) % 128 = _; omega
    have e2 : fold (half d) = ⟨d.val * 2 + 1, by omega⟩ := Fin.ext (by rw [fold_val, hh, if_neg (by omega)]; show _ = d.val * 2 + 1; omega)
    rw [dif_pos h, cosPrep_lo s d h, sinPrep_lo s d h, e1, e2, mul_neg, ← sub_eq_add_neg]
  · show y (fold d) * cosPrep (ix2 s d) + y (fold (half d)) * sinPrep (ix2 s d) = _
    have hd := d.isLt
    have e1 : fold d = ⟨(d.val - 64) * 2 + 1, by omega⟩ := Fin.ext (by rw [fold_val, if_neg h])
    have hh : (half d).val = d.val - 64 := by show (d.val + 128 - 64) % 128 = _; omega
    have e2 : fold (half d) = ⟨(d.val - 64) * 2, by omega⟩ := Fin.ext (by rw [fold_val, hh, if_pos (by omega)])
    rw [dif_neg h, cosPrep_hi s d h, sinPrep_hi s d h, e1, e2, add_comm]

/-- A head of the kernel, of a row whose projection is the reference's in the kernel's order of columns. -/
theorem turn_norm (z g : Fin 128 → EReal) (s : Fin 2048) (d : Fin 128) :
    turn (headNorm (fun d => z (fold d)) (fun d => g (fold d))) (fun d => cosPrep (ix2 s d)) (fun d => sinPrep (ix2 s d)) d
      = pair (headNorm z g) s d := by
  rw [show headNorm (fun d => z (fold d)) (fun d => g (fold d)) = fun d => headNorm z g (fold d) from funext fun d => headNorm_fold z g d]
  exact turn_fold _ s d

end Cert.MidIdeal.Proj

end
-- ==== Proof.MidRef.lean ====
/-
  The reference of the mid-block, at an index: the rows after the residual, their modulated norm, the projection.
-/
module

public import proofs.«01_k».proof.Proof.Gen.MidReferenceIdeal.Run
public import proofs.«01_k».proof.Proof.MidRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen Cert.MidRow

variable (a0 : FVec Ideal S32x2048x1024 .f32) (a1 a2 : FVec Ideal S32x2048x512 .f32) (a3 : FVec Ideal S2x40x1x3072 .f32)
  (a4 : FVec Ideal S1024x1024 .f32) (a5 : FVec Ideal S1024 .f32) (a6 : FVec Ideal S1024x2560 .f32) (a7 : FVec Ideal S128 .f32)

/-- The rows after the residual. -/
def xRef : FVec Ideal S32x2048x1024 .f32 :=
  addf a0 (mulf (broadcastInDim S32x2048x1024 ![0, 1, 2] bcast_S32x1x1024_S32x2048x1024_0_1_2 (shapeCast S32x1x1024 (extractStridedSlice S1x32x1x1024 ![0, 0, 0, 2048] a3 slices_S2x40x1x3072_S1x32x1x1024_0_0_0_2048) shapeCasts_S1x32x1x1024_S32x1x1024)) (Host.dotGeneral (F := Ideal) (φ₁ := .f32) dot_S32x2048x1024_S1024x1024_S32x2048x1024_2_0_01_1_n_n none (concatenate S32x2048x1024 2 [⟨S32x2048x512, a1⟩, ⟨S32x2048x512, a2⟩] concatenates_S32x2048x512_S32x2048x512_S32x2048x1024_d2) a4))

/-- Their modulated norm. -/
def hRef (v : FVec Ideal S32x2048x1024 .f32) : FVec Ideal S32x2048x1024 .f32 :=
  addf (mulf (mulf (mulf v (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf v v) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a5))) (broadcastInDim S32x2048x1024 ![0, 1, 2] bcast_S32x1x1024_S32x2048x1024_0_1_2 (addf (broadcastInDim S32x1x1024 ![] bcast_S_S32x1x1024 (constant S_ .f32 0x3F800000#32)) (shapeCast S32x1x1024 (extractStridedSlice S1x32x1x1024 ![1, 0, 0, 1024] a3 slices_S2x40x1x3072_S1x32x1x1024_1_0_0_1024) shapeCasts_S1x32x1x1024_S32x1x1024)))) (broadcastInDim S32x2048x1024 ![0, 1, 2] bcast_S32x1x1024_S32x2048x1024_0_1_2 (shapeCast S32x1x1024 (extractStridedSlice S1x32x1x1024 ![1, 0, 0, 0] a3 slices_S2x40x1x3072_S1x32x1x1024_1_0_0_0) shapeCasts_S1x32x1x1024_S32x1x1024))

/-- The projection. -/
def zRef (h : FVec Ideal S32x2048x1024 .f32) : FVec Ideal S32x2048x2560 .f32 :=
  Host.dotGeneral (F := Ideal) (φ₁ := .f32) dot_S32x2048x1024_S1024x2560_S32x2048x2560_2_0_01_1_n_n none h a6

theorem xRef_at (b : Fin 32) (s : Fin 2048) (n : Fin 1024) : (xRef a0 a1 a2 a3 a4 (ix3 b s n) : EReal)
    = a0 (ix3 b s n) + a3 (ix4 0 ⟨b.val, by omega⟩ 0 ⟨2048 + n.val, by omega⟩)
      * (∑ k : Fin 512, a1 (ix3 b s k) * a4 (ix2 ⟨k.val, by omega⟩ n) + ∑ k : Fin 512, a2 (ix3 b s k) * a4 (ix2 ⟨512 + k.val, by omega⟩ n)) := by
  pointwise [xRef]

theorem hRef_at (v : FVec Ideal S32x2048x1024 .f32) (b : Fin 32) (s : Fin 2048) (n : Fin 1024) : (hRef a3 a5 v (ix3 b s n) : EReal)
    = modNorm (fun e => v (ix3 b s e)) (fun e => a5 (ix1 e)) (fun e => a3 (ix4 1 ⟨b.val, by omega⟩ 0 ⟨e.val, by omega⟩)) (fun e => a3 (ix4 1 ⟨b.val, by omega⟩ 0 ⟨1024 + e.val, by omega⟩)) n := by
  unfold modNorm
  pointwise [hRef]

theorem zRef_at (h : FVec Ideal S32x2048x1024 .f32) (b : Fin 32) (s : Fin 2048) (n : Fin 2560) : (zRef a6 h (ix3 b s n) : EReal)
    = ∑ e : Fin 1024, h (ix3 b s e) * a6 (ix2 e n) := by
  pointwise [zRef]

end Cert.MidReferenceIdeal.Proj

end
-- ==== Proof.MidRefHead.lean ====
/-
  The heads of the reference's queries, at an index.
-/
module

public import proofs.«01_k».proof.Proof.MidRef

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen Cert.MidRow

/-- The normed head, its features in pairs. -/
def qNorm (u : FVec Ideal S32x2048x8x128 .f32) (g : FVec Ideal S128 .f32) : FVec Ideal S32x2048x8x64x2 .f32 :=
  shapeCast S32x2048x8x64x2 (mulf (mulf u (broadcastInDim S32x2048x8x128 ![0, 1, 2, 3] bcast_S32x2048x8x1_S32x2048x8x128_0_1_2_3 (Host.rsqrt (addf (Host.divf (broadcastInDim S32x2048x8x1 ![0, 1, 2] bcast_S32x2048x8_S32x2048x8x1_0_1_2 (Host.reduceAdd (mulf u u) (constant S_ .f32 0x00000000#32) reducesTo_S32x2048x8x128_S32x2048x8_d3 h_S_)) (broadcastInDim S32x2048x8x1 ![] bcast_S_S32x2048x8x1 (constant S_ .f32 0x43000000#32))) (broadcastInDim S32x2048x8x1 ![] bcast_S_S32x2048x8x1 (constant S_ .f32 0x358637BD#32)))))) (broadcastInDim S32x2048x8x128 ![0, 1, 2, 3] bcast_S1x1x1x128_S32x2048x8x128_0_1_2_3 (broadcastInDim S1x1x1x128 ![3] bcast_S128_S1x1x1x128_3 g))) shapeCasts_S32x2048x8x128_S32x2048x8x64x2

/-- The heads of the projection, from its columns. -/
def qIn (z : FVec Ideal S32x2048x2560 .f32) : FVec Ideal S32x2048x8x128 .f32 :=
  shapeCast S32x2048x8x128 (extractStridedSlice S32x2048x1024 ![0, 0, 0] z slices_S32x2048x2560_S32x2048x1024_0_0_0) shapeCasts_S32x2048x1024_S32x2048x8x128

/-- The first and the second of every pair. -/
def qFst (y : FVec Ideal S32x2048x8x64x2 .f32) : FVec Ideal S32x2048x8x64 .f32 :=
  shapeCast S32x2048x8x64 (extractStridedSlice S32x2048x8x64x1 ![0, 0, 0, 0, 0] y slices_S32x2048x8x64x2_S32x2048x8x64x1_0_0_0_0_0) shapeCasts_S32x2048x8x64x1_S32x2048x8x64
def qSnd (y : FVec Ideal S32x2048x8x64x2 .f32) : FVec Ideal S32x2048x8x64 .f32 :=
  shapeCast S32x2048x8x64 (extractStridedSlice S32x2048x8x64x1 ![0, 0, 0, 0, 1] y slices_S32x2048x8x64x2_S32x2048x8x64x1_0_0_0_0_1) shapeCasts_S32x2048x8x64x1_S32x2048x8x64

/-- The pairs turned, all first ones before the second ones. -/
def qTurn (p o : FVec Ideal S32x2048x8x64 .f32) (co si : FVec Ideal S2048x1x64 .f32) : FVec Ideal S32x2048x8x2x64 .f32 :=
  transpose S32x2048x8x2x64 [0, 1, 2, 4, 3] (shapeCast S32x2048x8x64x2 (shapeCast S32x2048x8x128 (concatenate S32x2048x8x64x2 4 [⟨S32x2048x8x64x1, (broadcastInDim S32x2048x8x64x1 ![0, 1, 2, 3] bcast_S32x2048x8x64_S32x2048x8x64x1_0_1_2_3 (subf (mulf p (broadcastInDim S32x2048x8x64 ![0, 1, 2, 3] bcast_S1x2048x1x64_S32x2048x8x64_0_1_2_3 (broadcastInDim S1x2048x1x64 ![1, 2, 3] bcast_S2048x1x64_S1x2048x1x64_1_2_3 co))) (mulf o (broadcastInDim S32x2048x8x64 ![0, 1, 2, 3] bcast_S1x2048x1x64_S32x2048x8x64_0_1_2_3 (broadcastInDim S1x2048x1x64 ![1, 2, 3] bcast_S2048x1x64_S1x2048x1x64_1_2_3 si)))))⟩, ⟨S32x2048x8x64x1, (broadcastInDim S32x2048x8x64x1 ![0, 1, 2, 3] bcast_S32x2048x8x64_S32x2048x8x64x1_0_1_2_3 (addf (mulf p (broadcastInDim S32x2048x8x64 ![0, 1, 2, 3] bcast_S1x2048x1x64_S32x2048x8x64_0_1_2_3 (broadcastInDim S1x2048x1x64 ![1, 2, 3] bcast_S2048x1x64_S1x2048x1x64_1_2_3 si))) (mulf o (broadcastInDim S32x2048x8x64 ![0, 1, 2, 3] bcast_S1x2048x1x64_S32x2048x8x64_0_1_2_3 (broadcastInDim S1x2048x1x64 ![1, 2, 3] bcast_S2048x1x64_S1x2048x1x64_1_2_3 co)))))⟩] concatenates_S32x2048x8x64x1_S32x2048x8x64x1_S32x2048x8x64x2_d4) shapeCasts_S32x2048x8x64x2_S32x2048x8x128) shapeCasts_S32x2048x8x128_S32x2048x8x64x2) transposes_S32x2048x8x64x2_S32x2048x8x2x64_0_1_2_4_3

theorem qIn_at (z : FVec Ideal S32x2048x2560 .f32) (b : Fin 32) (s : Fin 2048) (j : Fin 8) (d : Fin 128) :
    (qIn z (ix4 b s j d) : EReal) = z (ix3 b s ⟨j.val * 128 + d.val, by omega⟩) := by
  pointwise [qIn]

theorem qNorm_at (u : FVec Ideal S32x2048x8x128 .f32) (g : FVec Ideal S128 .f32) (b : Fin 32) (s : Fin 2048) (j : Fin 8) (i : Fin 64) (e : Fin 2) :
    (qNorm u g (ix5 b s j i e) : EReal) = headNorm (fun d => u (ix4 b s j d)) (fun d => g (ix1 d)) ⟨i.val * 2 + e.val, by omega⟩ := by
  unfold headNorm
  pointwise [qNorm]

theorem qFst_at (y : FVec Ideal S32x2048x8x64x2 .f32) (b : Fin 32) (s : Fin 2048) (j : Fin 8) (i : Fin 64) :
    (qFst y (ix4 b s j i) : EReal) = y (ix5 b s j i 0) := by
  pointwise [qFst]

theorem qSnd_at (y : FVec Ideal S32x2048x8x64x2 .f32) (b : Fin 32) (s : Fin 2048) (j : Fin 8) (i : Fin 64) :
    (qSnd y (ix4 b s j i) : EReal) = y (ix5 b s j i 1) := by
  pointwise [qSnd]

theorem qTurn_fst (p o : FVec Ideal S32x2048x8x64 .f32) (co si : FVec Ideal S2048x1x64 .f32) (b : Fin 32) (s : Fin 2048) (j : Fin 8) (i : Fin 64) :
    (qTurn p o co si (ix5 b s j 0 i) : EReal) = p (ix4 b s j i) * co (ix3 s 0 i) - o (ix4 b s j i) * si (ix3 s 0 i) := by
  pointwise [qTurn]

theorem qTurn_snd (p o : FVec Ideal S32x2048x8x64 .f32) (co si : FVec Ideal S2048x1x64 .f32) (b : Fin 32) (s : Fin 2048) (j : Fin 8) (i : Fin 64) :
    (qTurn p o co si (ix5 b s j 1 i) : EReal) = p (ix4 b s j i) * si (ix3 s 0 i) + o (ix4 b s j i) * co (ix3 s 0 i) := by
  pointwise [qTurn]

end Cert.MidReferenceIdeal.Proj

end
-- ==== Proof.MidRefKey.lean ====
/-
  The heads of the reference's keys, at an index.
-/
module

public import proofs.«01_k».proof.Proof.MidRef

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen Cert.MidRow

/-- The normed head, its features in pairs. -/
def kNorm (u : FVec Ideal S32x2048x2x128 .f32) (g : FVec Ideal S128 .f32) : FVec Ideal S32x2048x2x64x2 .f32 :=
  shapeCast S32x2048x2x64x2 (mulf (mulf u (broadcastInDim S32x2048x2x128 ![0, 1, 2, 3] bcast_S32x2048x2x1_S32x2048x2x128_0_1_2_3 (Host.rsqrt (addf (Host.divf (broadcastInDim S32x2048x2x1 ![0, 1, 2] bcast_S32x2048x2_S32x2048x2x1_0_1_2 (Host.reduceAdd (mulf u u) (constant S_ .f32 0x00000000#32) reducesTo_S32x2048x2x128_S32x2048x2_d3 h_S_)) (broadcastInDim S32x2048x2x1 ![] bcast_S_S32x2048x2x1 (constant S_ .f32 0x43000000#32))) (broadcastInDim S32x2048x2x1 ![] bcast_S_S32x2048x2x1 (constant S_ .f32 0x358637BD#32)))))) (broadcastInDim S32x2048x2x128 ![0, 1, 2, 3] bcast_S1x1x1x128_S32x2048x2x128_0_1_2_3 (broadcastInDim S1x1x1x128 ![3] bcast_S128_S1x1x1x128_3 g))) shapeCasts_S32x2048x2x128_S32x2048x2x64x2

/-- The heads of the projection, from its columns. -/
def kIn (z : FVec Ideal S32x2048x2560 .f32) : FVec Ideal S32x2048x2x128 .f32 :=
  shapeCast S32x2048x2x128 (extractStridedSlice S32x2048x256 ![0, 0, 1024] z slices_S32x2048x2560_S32x2048x256_0_0_1024) shapeCasts_S32x2048x256_S32x2048x2x128

/-- The first and the second of every pair. -/
def kFst (y : FVec Ideal S32x2048x2x64x2 .f32) : FVec Ideal S32x2048x2x64 .f32 :=
  shapeCast S32x2048x2x64 (extractStridedSlice S32x2048x2x64x1 ![0, 0, 0, 0, 0] y slices_S32x2048x2x64x2_S32x2048x2x64x1_0_0_0_0_0) shapeCasts_S32x2048x2x64x1_S32x2048x2x64
def kSnd (y : FVec Ideal S32x2048x2x64x2 .f32) : FVec Ideal S32x2048x2x64 .f32 :=
  shapeCast S32x2048x2x64 (extractStridedSlice S32x2048x2x64x1 ![0, 0, 0, 0, 1] y slices_S32x2048x2x64x2_S32x2048x2x64x1_0_0_0_0_1) shapeCasts_S32x2048x2x64x1_S32x2048x2x64

/-- The pairs turned, all first ones before the second ones. -/
def kTurn (p o : FVec Ideal S32x2048x2x64 .f32) (co si : FVec Ideal S2048x1x64 .f32) : FVec Ideal S32x2048x2x2x64 .f32 :=
  transpose S32x2048x2x2x64 [0, 1, 2, 4, 3] (shapeCast S32x2048x2x64x2 (shapeCast S32x2048x2x128 (concatenate S32x2048x2x64x2 4 [⟨S32x2048x2x64x1, (broadcastInDim S32x2048x2x64x1 ![0, 1, 2, 3] bcast_S32x2048x2x64_S32x2048x2x64x1_0_1_2_3 (subf (mulf p (broadcastInDim S32x2048x2x64 ![0, 1, 2, 3] bcast_S1x2048x1x64_S32x2048x2x64_0_1_2_3 (broadcastInDim S1x2048x1x64 ![1, 2, 3] bcast_S2048x1x64_S1x2048x1x64_1_2_3 co))) (mulf o (broadcastInDim S32x2048x2x64 ![0, 1, 2, 3] bcast_S1x2048x1x64_S32x2048x2x64_0_1_2_3 (broadcastInDim S1x2048x1x64 ![1, 2, 3] bcast_S2048x1x64_S1x2048x1x64_1_2_3 si)))))⟩, ⟨S32x2048x2x64x1, (broadcastInDim S32x2048x2x64x1 ![0, 1, 2, 3] bcast_S32x2048x2x64_S32x2048x2x64x1_0_1_2_3 (addf (mulf p (broadcastInDim S32x2048x2x64 ![0, 1, 2, 3] bcast_S1x2048x1x64_S32x2048x2x64_0_1_2_3 (broadcastInDim S1x2048x1x64 ![1, 2, 3] bcast_S2048x1x64_S1x2048x1x64_1_2_3 si))) (mulf o (broadcastInDim S32x2048x2x64 ![0, 1, 2, 3] bcast_S1x2048x1x64_S32x2048x2x64_0_1_2_3 (broadcastInDim S1x2048x1x64 ![1, 2, 3] bcast_S2048x1x64_S1x2048x1x64_1_2_3 co)))))⟩] concatenates_S32x2048x2x64x1_S32x2048x2x64x1_S32x2048x2x64x2_d4) shapeCasts_S32x2048x2x64x2_S32x2048x2x128) shapeCasts_S32x2048x2x128_S32x2048x2x64x2) transposes_S32x2048x2x64x2_S32x2048x2x2x64_0_1_2_4_3

theorem kIn_at (z : FVec Ideal S32x2048x2560 .f32) (b : Fin 32) (s : Fin 2048) (j : Fin 2) (d : Fin 128) :
    (kIn z (ix4 b s j d) : EReal) = z (ix3 b s ⟨1024 + (j.val * 128 + d.val), by omega⟩) := by
  pointwise [kIn]

theorem kNorm_at (u : FVec Ideal S32x2048x2x128 .f32) (g : FVec Ideal S128 .f32) (b : Fin 32) (s : Fin 2048) (j : Fin 2) (i : Fin 64) (e : Fin 2) :
    (kNorm u g (ix5 b s j i e) : EReal) = headNorm (fun d => u (ix4 b s j d)) (fun d => g (ix1 d)) ⟨i.val * 2 + e.val, by omega⟩ := by
  unfold headNorm
  pointwise [kNorm]

theorem kFst_at (y : FVec Ideal S32x2048x2x64x2 .f32) (b : Fin 32) (s : Fin 2048) (j : Fin 2) (i : Fin 64) :
    (kFst y (ix4 b s j i) : EReal) = y (ix5 b s j i 0) := by
  pointwise [kFst]

theorem kSnd_at (y : FVec Ideal S32x2048x2x64x2 .f32) (b : Fin 32) (s : Fin 2048) (j : Fin 2) (i : Fin 64) :
    (kSnd y (ix4 b s j i) : EReal) = y (ix5 b s j i 1) := by
  pointwise [kSnd]

theorem kTurn_fst (p o : FVec Ideal S32x2048x2x64 .f32) (co si : FVec Ideal S2048x1x64 .f32) (b : Fin 32) (s : Fin 2048) (j : Fin 2) (i : Fin 64) :
    (kTurn p o co si (ix5 b s j 0 i) : EReal) = p (ix4 b s j i) * co (ix3 s 0 i) - o (ix4 b s j i) * si (ix3 s 0 i) := by
  pointwise [kTurn]

theorem kTurn_snd (p o : FVec Ideal S32x2048x2x64 .f32) (co si : FVec Ideal S2048x1x64 .f32) (b : Fin 32) (s : Fin 2048) (j : Fin 2) (i : Fin 64) :
    (kTurn p o co si (ix5 b s j 1 i) : EReal) = p (ix4 b s j i) * si (ix3 s 0 i) + o (ix4 b s j i) * co (ix3 s 0 i) := by
  pointwise [kTurn]

end Cert.MidReferenceIdeal.Proj

end
-- ==== Proof.MidRefAng.lean ====
/-
  The angles of the reference, at an index.
-/
module

public import proofs.«01_k».proof.Proof.MidRef

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen Cert.MidRow

/-- The frequencies of the 32 angles. -/
def invR : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles of the 2048 positions. -/
def angR : FVec Ideal S2048x64 .f32 :=
  concatenate S2048x64 1 [⟨S2048x32, (mulf (broadcastInDim S2048x32 ![0, 1] bcast_S2048x1_S2048x32_0_1 (broadcastInDim S2048x1 ![0] bcast_S2048_S2048x1_0 (shapeCast S2048 (broadcastInDim S32x64 ![0] bcast_S32_S32x64_0 (sitofp .f32 (iotaInDim S32 32 0))) shapeCasts_S32x64_S2048))) (broadcastInDim S2048x32 ![0, 1] bcast_S1x32_S2048x32_0_1 (broadcastInDim S1x32 ![1] bcast_S32_S1x32_1 invR)))⟩, ⟨S2048x32, (mulf (broadcastInDim S2048x32 ![0, 1] bcast_S2048x1_S2048x32_0_1 (broadcastInDim S2048x1 ![0] bcast_S2048_S2048x1_0 (shapeCast S2048 (broadcastInDim S32x64 ![0, 1] bcast_S1x64_S32x64_0_1 (shapeCast S1x64 (sitofp .f32 (iotaInDim S64 32 0)) shapeCasts_S64_S1x64)) shapeCasts_S32x64_S2048))) (broadcastInDim S2048x32 ![0, 1] bcast_S1x32_S2048x32_0_1 (broadcastInDim S1x32 ![1] bcast_S32_S1x32_1 invR)))⟩] concatenates_S2048x32_S2048x32_S2048x64_d1

theorem invR_at (e : Fin 32) : (invR (ix1 e) : EReal) = freq e := by
  unfold freq
  pointwise [invR]

theorem angR_at (s : Fin 2048) (e : Fin 64) : (angR (ix2 s e) : EReal) = angle s e := by
  unfold angle
  simp only [← invR_at]
  pointwise [angR]

end Cert.MidReferenceIdeal.Proj

end
-- ==== Proof.MidRefPair.lean ====
/-
  The reference's queries and keys: the turned pairs of the normed heads.
-/
module

public import proofs.«01_k».proof.Proof.MidRefHead
public import proofs.«01_k».proof.Proof.MidRefKey
public import proofs.«01_k».proof.Proof.MidRefAng
public import proofs.«01_k».proof.Proof.MidPair

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen Cert.MidRow

/-- The cosines and sines of the angles. -/
def coR : FVec Ideal S2048x1x64 .f32 := broadcastInDim S2048x1x64 ![0, 2] bcast_S2048x64_S2048x1x64_0_2 (Host.cos angR)
def siR : FVec Ideal S2048x1x64 .f32 := broadcastInDim S2048x1x64 ![0, 2] bcast_S2048x64_S2048x1x64_0_2 (Host.sin angR)

theorem co_at (s : Fin 2048) (i : Fin 64) : (coR (ix3 s 0 i) : EReal) = Ideal.cos (angle s i) := by
  simp only [← angR_at]
  pointwise [coR]

theorem si_at (s : Fin 2048) (i : Fin 64) : (siR (ix3 s 0 i) : EReal) = Ideal.sin (angle s i) := by
  simp only [← angR_at]
  pointwise [siR]

/-- The queries from the heads' features. -/
def qHeads (z : FVec Ideal S32x2048x2560 .f32) (g : FVec Ideal S128 .f32) : FVec Ideal S32x2048x8x2x64 .f32 :=
  qTurn (qFst (qNorm (qIn z) g)) (qSnd (qNorm (qIn z) g)) coR siR

theorem qHeads_fst (z : FVec Ideal S32x2048x2560 .f32) (g : FVec Ideal S128 .f32) (b : Fin 32) (s : Fin 2048) (j : Fin 8) (d : Fin 128) (h : d.val < 64) :
    (qHeads z g (ix5 b s j 0 ⟨d.val, h⟩) : EReal) = pair (headNorm (fun d => z (ix3 b s ⟨j.val * 128 + d.val, by omega⟩)) (fun d => g (ix1 d))) s d := by
  unfold qHeads pair
  rw [qTurn_fst, qFst_at, qSnd_at, qNorm_at, qNorm_at, co_at, si_at, dif_pos h]
  simp only [qIn_at]
  rfl

theorem qHeads_snd (z : FVec Ideal S32x2048x2560 .f32) (g : FVec Ideal S128 .f32) (b : Fin 32) (s : Fin 2048) (j : Fin 8) (d : Fin 128) (h : ¬ d.val < 64) :
    (qHeads z g (ix5 b s j 1 ⟨d.val - 64, by omega⟩) : EReal) = pair (headNorm (fun d => z (ix3 b s ⟨j.val * 128 + d.val, by omega⟩)) (fun d => g (ix1 d))) s d := by
  unfold qHeads pair
  rw [qTurn_snd, qFst_at, qSnd_at, qNorm_at, qNorm_at, co_at, si_at, dif_neg h]
  simp only [qIn_at]
  rfl

/-- The keys from the heads' features. -/
def kHeads (z : FVec Ideal S32x2048x2560 .f32) (g : FVec Ideal S128 .f32) : FVec Ideal S32x2048x2x2x64 .f32 :=
  kTurn (kFst (kNorm (kIn z) g)) (kSnd (kNorm (kIn z) g)) coR siR

theorem kHeads_fst (z : FVec Ideal S32x2048x2560 .f32) (g : FVec Ideal S128 .f32) (b : Fin 32) (s : Fin 2048) (j : Fin 2) (d : Fin 128) (h : d.val < 64) :
    (kHeads z g (ix5 b s j 0 ⟨d.val, h⟩) : EReal) = pair (headNorm (fun d => z (ix3 b s ⟨1024 + (j.val * 128 + d.val), by omega⟩)) (fun d => g (ix1 d))) s d := by
  unfold kHeads pair
  rw [kTurn_fst, kFst_at, kSnd_at, kNorm_at, kNorm_at, co_at, si_at, dif_pos h]
  simp only [kIn_at]
  rfl

theorem kHeads_snd (z : FVec Ideal S32x2048x2560 .f32) (g : FVec Ideal S128 .f32) (b : Fin 32) (s : Fin 2048) (j : Fin 2) (d : Fin 128) (h : ¬ d.val < 64) :
    (kHeads z g (ix5 b s j 1 ⟨d.val - 64, by omega⟩) : EReal) = pair (headNorm (fun d => z (ix3 b s ⟨1024 + (j.val * 128 + d.val), by omega⟩)) (fun d => g (ix1 d))) s d := by
  unfold kHeads pair
  rw [kTurn_snd, kFst_at, kSnd_at, kNorm_at, kNorm_at, co_at, si_at, dif_neg h]
  simp only [kIn_at]
  rfl

end Cert.MidReferenceIdeal.Proj

end
-- ==== Proof.MidRes.lean ====
/-
  The queries and keys of the reference's mid-block, at a row and a column.
-/
module

public import proofs.«01_k».proof.Proof.MidRefPair
public import proofs.«01_k».proof.Proof.Prep

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen Cert.MidRow

open Cert.KernelIdeal.Attention (rows_at merge_at)

/-- The batches, and the heads' halves, side by side. -/
theorem merge5_at {B T J E D N M : ℕ} (x : (⟨5, ![B, T, J, E, D]⟩ : Shape).Idx → EReal) (hc : (⟨5, ![B, T, J, E, D]⟩ : Shape).ShapeCasts ⟨2, ![N, M]⟩)
    (b : Fin B) (s : Fin T) (j : Fin J) (e : Fin E) (d : Fin D) (R : Fin N) (n : Fin M) (hM : M = J * E * D) (hR : R.val = b.val * T + s.val)
    (hn : n.val = (j.val * E + e.val) * D + d.val) :
    shapeCast ⟨2, ![N, M]⟩ x hc (ix2 R n) = x (ix5 b s j e d) := by
  subst hM
  refine shapeCast_apply _ _ _ _ ?_
  rw [Shape.rowMajor_val_five, Shape.rowMajor_val_two]
  show (((b.val * T + s.val) * J + j.val) * E + e.val) * D + d.val = R.val * (J * E * D) + n.val
  rw [hR, hn]
  ring

/-- A change of format keeps the value. -/
theorem trunc_at {S : Shape} (x : FVec Ideal S .f32) (i : S.Idx) : (truncf .bf16 x bitsLt_bf16_f32 i : EReal) = x i := rfl

/-- The queries' scale. -/
def qScale (y : FVec Ideal S32x2048x8x2x64 .f32) : FVec Ideal S32x2048x8x2x64 .f32 :=
  Host.divf (Host.divf y (broadcastInDim S32x2048x8x2x64 ![] bcast_S_S32x2048x8x2x64 (Host.sqrt (constant S_ .f32 0x43000000#32)))) (broadcastInDim S32x2048x8x2x64 ![] bcast_S_S32x2048x8x2x64 (Host.log (constant S_ .f32 0x40000000#32)))

/-- A query's feature over the root of the head's size, in units of the logarithm of two. -/
def scaled (t : EReal) : EReal := Ideal.div (Ideal.div t (Ideal.sqrt (Ideal.ofBits .f32 0x43000000#32))) (Ideal.log (Ideal.ofBits .f32 0x40000000#32))

theorem qScale_at (y : FVec Ideal S32x2048x8x2x64 .f32) (b : Fin 32) (s : Fin 2048) (j : Fin 8) (e : Fin 2) (i : Fin 64) :
    (qScale y (ix5 b s j e i) : EReal) = scaled (y (ix5 b s j e i)) := by
  unfold scaled
  pointwise [qScale]

def qRes (y : FVec Ideal S32x2048x8x2x64 .f32) : FVec Ideal S65536x1024 .bf16 :=
  truncf .bf16 (shapeCast S65536x1024 (qScale y) shapeCasts_S32x2048x8x2x64_S65536x1024) bitsLt_bf16_f32
def kRes (y : FVec Ideal S32x2048x2x2x64 .f32) : FVec Ideal S65536x256 .bf16 :=
  truncf .bf16 (shapeCast S65536x256 y shapeCasts_S32x2048x2x2x64_S65536x256) bitsLt_bf16_f32
variable (z : FVec Ideal S32x2048x2560 .f32) (g : FVec Ideal S128 .f32) (b : Fin 32) (s : Fin 2048) (R : Fin 65536) (hR : R.val = b.val * 2048 + s.val)
include hR

theorem qRes_at (j : Fin 8) (d : Fin 128) (n : Fin 1024) (hn : n.val = j.val * 128 + d.val) :
    (qRes (qHeads z g) (ix2 R n) : EReal) = scaled (pair (headNorm (fun d => z (ix3 b s ⟨j.val * 128 + d.val, by omega⟩)) (fun d => g (ix1 d))) s d) := by
  unfold qRes
  by_cases h : d.val < 64
  · rw [← qHeads_fst z g b s j d h, ← qScale_at]
    exact (trunc_at _ _).trans <| merge5_at (qScale (qHeads z g)) _ b s j 0 ⟨d.val, h⟩ R n rfl hR (by show n.val = (j.val * 2 + 0) * 64 + d.val; omega)
  · rw [← qHeads_snd z g b s j d h, ← qScale_at]
    exact (trunc_at _ _).trans <| merge5_at (qScale (qHeads z g)) _ b s j 1 ⟨d.val - 64, by omega⟩ R n rfl hR (by show n.val = (j.val * 2 + 1) * 64 + (d.val - 64); omega)

theorem kRes_at (j : Fin 2) (d : Fin 128) (n : Fin 256) (hn : n.val = j.val * 128 + d.val) :
    (kRes (kHeads z g) (ix2 R n) : EReal) = pair (headNorm (fun d => z (ix3 b s ⟨1024 + (j.val * 128 + d.val), by omega⟩)) (fun d => g (ix1 d))) s d := by
  unfold kRes
  by_cases h : d.val < 64
  · rw [← kHeads_fst z g b s j d h]
    exact (trunc_at _ _).trans <| merge5_at (kHeads z g) _ b s j 0 ⟨d.val, h⟩ R n rfl hR (by show n.val = (j.val * 2 + 0) * 64 + d.val; omega)
  · rw [← kHeads_snd z g b s j d h]
    exact (trunc_at _ _).trans <| merge5_at (kHeads z g) _ b s j 1 ⟨d.val - 64, by omega⟩ R n rfl hR (by show n.val = (j.val * 2 + 1) * 64 + (d.val - 64); omega)

end Cert.MidReferenceIdeal.Proj

end
-- ==== Proof.MidScale.lean ====
/-
  The queries' scale in the mid-block's kernel, the named constant, is the reference's two divisions.
-/
module

public import proofs.«01_k».proof.Proof.MidVec
public import proofs.«01_k».proof.Proof.MidRes

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

theorem ofBits_128 : Ideal.ofBits .f32 0x43000000#32 = ((128 : ℝ) : EReal) := by
  simp [Ideal.ofBits, Ideal.ieee, -EReal.coe_mul]; norm_num

theorem qs_eq : qs = (((Real.sqrt 128 * Real.log 2)⁻¹ : ℝ) : EReal) :=
  IdealRules.named_const.ideal_named_scalar _ _ _ _ rfl

theorem scaled_eq (t : EReal) : t * qs = Cert.MidReferenceIdeal.Proj.scaled t := by
  have h1 : Real.sqrt 128 ≠ 0 := (Real.sqrt_pos.mpr (by norm_num)).ne'
  have h2 : Real.log 2 ≠ 0 := (Real.log_pos (by norm_num)).ne'
  unfold Cert.MidReferenceIdeal.Proj.scaled
  rw [qs_eq, ofBits_128, Cert.Attention.Row.ofBits_two, Ideal.sqrt_coe, if_neg (by norm_num), Ideal.log_coe, if_neg (by norm_num),
    Ideal.div_coe h1, Ideal.div_coe h2, mul_assoc, ← EReal.coe_mul]
  congr 2
  rw [mul_inv, one_div, one_div]

end Cert.MidIdeal.Proj

end
-- ==== Proof.MidRows.lean ====
/-
  A row of a point's block of the mid-block's kernel, against the same row of the reference.
-/
module

public import proofs.«01_k».proof.Proof.MidArray
public import proofs.«01_k».proof.Proof.MidPrep
public import proofs.«01_k».proof.Proof.MidRot
public import proofs.«01_k».proof.Proof.MidScale
public import proofs.«01_k».proof.Proof.MidBlock
public import proofs.«01_k».proof.Proof.MidRes

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open Cert.MidReferenceIdeal.Proj (xRef hRef zRef xRef_at hRef_at zRef_at)
open Cert.KernelIdeal.Attention (rows_at)

variable (m : (ℓ : Loc nD τ sig) → Buf (Elt Ideal) ℓ) (c : Dev nD)

/-- The reference's rows, their modulated norm, and its projection, of the kernel's arguments. -/
def xV : FVec Ideal S32x2048x1024 .f32 := xRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def hV : FVec Ideal S32x2048x1024 .f32 := hRef (m ((c.tc : Thread nD τ).loc main_arg3)) (m ((c.tc : Thread nD τ).loc main_arg5)) (xV m c)
def zV : FVec Ideal Cert.MidReferenceIdeal.S32x2048x2560 .f32 := zRef (m ((c.tc : Thread nD τ).loc main_arg6)) (hV m c)

variable (t : Fin cfg0.N) (r : Fin 512)

/-- The batch and the position of a row of a point's block. -/
def bt : Fin 32 := ⟨t.val / 4, by have := lt_N t; omega⟩
def st : Fin 2048 := ⟨t.val % 4 * 512 + r.val, by omega⟩

theorem row_bs : t.val * 512 + r.val = (bt t).val * 2048 + (st t r).val := by
  show _ = t.val / 4 * 2048 + (t.val % 4 * 512 + r.val)
  omega

theorem xB_eq (n : Fin 1024) : xB (iblk m c 0 t) (iblk m c 1 t) (iblk m c 2 t) (iblk m c 3 t) (iblk m c 5 t) (iblk m c 6 t) r n = xV m c (ix3 (bt t) (st t r) n) := by
  unfold xB
  refine Eq.trans ?_ (xRef_at _ _ _ _ _ (bt t) (st t r) n).symm
  refine congrArg₂ (fun a b : EReal => a + b) ?_ (congrArg₂ (fun a b : EReal => a * b) ?_ (congrArg₂ (fun a b : EReal => a + b)
    (Finset.sum_congr rfl fun k _ => congrArg₂ (fun a b : EReal => a * b) ?_ ?_) (Finset.sum_congr rfl fun k _ => congrArg₂ (fun a b : EReal => a * b) ?_ ?_)))
  · rw [blk0, x_eq]
    exact rows_at _ _ (bt t) (st t r) _ n (row_bs t r)
  · rw [blk3, mod_eq]
    rfl
  · rw [blk1, hy_eq]
    exact hyPrep_at _ (bt t) (st t r) k _ (row_bs t r)
  · rw [blk5, wa_eq]
    exact waPrep_at _ k n
  · rw [blk2, ret_eq]
    exact retPrep_at _ (bt t) (st t r) k _ (row_bs t r)
  · rw [blk6, wb_eq]
    exact wbPrep_at _ k n

theorem hB_eq (n : Fin 1024) : hB (iblk m c 0 t) (iblk m c 1 t) (iblk m c 2 t) (iblk m c 3 t) (iblk m c 4 t) (iblk m c 5 t) (iblk m c 6 t) (iblk m c 7 t) r n = hV m c (ix3 (bt t) (st t r) n) := by
  unfold hB
  refine Eq.trans ?_ (hRef_at _ _ (xV m c) (bt t) (st t r) n).symm
  congr 1
  · exact funext fun e => xB_eq m c t r e
  · refine funext fun e => ?_
    rw [blk7, gg_eq]
    exact gg_at _ e
  · refine funext fun e => ?_
    rw [blk4, mod_eq]
    rfl
  · refine funext fun e => ?_
    rw [blk4, mod_eq]
    rfl

theorem zB_eq (n : Fin 2560) : zB (iblk m c 0 t) (iblk m c 1 t) (iblk m c 2 t) (iblk m c 3 t) (iblk m c 4 t) (iblk m c 5 t) (iblk m c 6 t) (iblk m c 7 t) (iblk m c 8 t) r n = zV m c (ix3 (bt t) (st t r) (col n)) := by
  unfold zB
  refine Eq.trans ?_ (zRef_at _ (hV m c) (bt t) (st t r) (col n)).symm
  refine Finset.sum_congr rfl fun e _ => congrArg₂ (fun a b : EReal => a * b) (hB_eq m c t r e) ?_
  rw [blk8, win_eq]
  exact winPrep_at _ e n

theorem col_head (j : Fin 10) (d : Fin 128) (n k : Fin 2560) (hn : n.val = j.val * 128 + d.val) (hk : k.val = j.val * 128 + (fold d).val) : col n = k := by
  have hd : (⟨n.val % 128, by omega⟩ : Fin 128) = d := Fin.ext (by show n.val % 128 = d.val; omega)
  refine Fin.ext ?_
  unfold col
  rw [dif_pos (by omega : n.val < 1280)]
  show n.val / 128 * 128 + (fold ⟨n.val % 128, by omega⟩).val = k.val
  have hf : (fold ⟨n.val % 128, by omega⟩).val = (fold d).val := congrArg (fun a => (fold a).val) hd
  omega

theorem col_rest (n : Fin 2560) (h : 1280 ≤ n.val) : col n = n := by
  unfold col
  rw [dif_neg (by omega)]

theorem turn_congr {y y' c c' s s' : Fin 128 → EReal} (hy : y = y') (hc : ∀ e, c e = c' e) (hs : ∀ e, s e = s' e) (d : Fin 128) : turn y c s d = turn y' c' s' d := by
  rw [hy, funext hc, funext hs]

theorem headNorm_congr {z z' g g' : Fin 128 → EReal} (hz : ∀ e, z e = z' e) (hg : ∀ e, g e = g' e) : headNorm z g = headNorm z' g' := by
  rw [funext hz, funext hg]

/-- A head of the kernel is the reference's head of the same columns. -/
theorem headB_eq (g : FVec Ideal S128 .f32) (w : Vec Ideal S1x128 .f32) (hw : ∀ d, w (ix2 0 d) = g (ix1 (fold d))) (J : Fin 20) (j : Fin 10) (hj : J.val = j.val) (o : Fin 128 → Fin 2560)
    (ho : ∀ d, (o d).val = j.val * 128 + d.val) (d : Fin 128) :
    headB (iblk m c 0 t) (iblk m c 1 t) (iblk m c 2 t) (iblk m c 3 t) (iblk m c 4 t) (iblk m c 5 t) (iblk m c 6 t) (iblk m c 7 t) (iblk m c 8 t) (iblk m c 11 t) (iblk m c 12 t) w r J d
      = pair (headNorm (fun d => zV m c (ix3 (bt t) (st t r) (o d))) (fun d => g (ix1 d))) (st t r) d := by
  refine Eq.trans ?_ (turn_norm (fun d => zV m c (ix3 (bt t) (st t r) (o d))) (fun d => g (ix1 d)) (st t r) d)
  refine turn_congr (headNorm_congr (fun e => ?_) (fun e => hw e)) (fun e => ?_) (fun e => ?_) d
  · refine (zB_eq m c t r _).trans ?_
    exact congrArg (fun k => zV m c (ix3 (bt t) (st t r) k)) (col_head j e _ _ (by show 128 * J.val + e.val = _; omega) (ho (fold e)))
  · rw [blk11, cos_eq]
    rfl
  · rw [blk12, sin_eq]
    rfl

end Cert.MidIdeal.Proj

end
-- ==== Proof.MidResCols.lean ====
/-
  The values and the gate of the reference's mid-block, at a row and a column.
-/
module

public import proofs.«01_k».proof.Proof.MidRef
public import proofs.«01_k».proof.Proof.Prep

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen

open Cert.KernelIdeal.Attention (rows_at merge_at)

theorem trunc_row {S : Shape} (x : FVec Ideal S .f32) (i : S.Idx) : (truncf .bf16 x bitsLt_bf16_f32 i : EReal) = x i := rfl

/-- The columns of the values, and a one beside every value head. -/
def vCols (z : FVec Ideal S32x2048x2560 .f32) : FVec Ideal S32x2048x2x128 .f32 :=
  shapeCast S32x2048x2x128 (extractStridedSlice S32x2048x256 ![0, 0, 1280] z slices_S32x2048x2560_S32x2048x256_0_0_1280) shapeCasts_S32x2048x256_S32x2048x2x128
def vOnes : FVec Ideal S32x2048x2x128 .f32 := broadcastInDim S32x2048x2x128 ![] bcast_S_S32x2048x2x128 (constant S_ .f32 0x3F800000#32)
def vHeads (u w : FVec Ideal S32x2048x2x128 .f32) : FVec Ideal S32x2048x2x256 .f32 :=
  concatenate S32x2048x2x256 3 [⟨S32x2048x2x128, u⟩, ⟨S32x2048x2x128, w⟩] concatenates_S32x2048x2x128_S32x2048x2x128_S32x2048x2x256_d3
def vRes (z : FVec Ideal S32x2048x2560 .f32) : FVec Ideal S65536x512 .bf16 :=
  truncf .bf16 (shapeCast S65536x512 (vHeads (vCols z) vOnes) shapeCasts_S32x2048x2x256_S65536x512) bitsLt_bf16_f32

/-- The gate's columns. -/
def gCols (z : FVec Ideal S32x2048x2560 .f32) : FVec Ideal S32x2048x1024 .f32 :=
  extractStridedSlice S32x2048x1024 ![0, 0, 1536] z slices_S32x2048x2560_S32x2048x1024_0_0_1536
def gRes (z : FVec Ideal S32x2048x2560 .f32) : FVec Ideal S65536x1024 .bf16 :=
  truncf .bf16 (shapeCast S65536x1024 (gCols z) shapeCasts_S32x2048x1024_S65536x1024) bitsLt_bf16_f32

theorem vCols_at (z : FVec Ideal S32x2048x2560 .f32) (b : Fin 32) (s : Fin 2048) (j : Fin 2) (d : Fin 128) :
    (vCols z (ix4 b s j d) : EReal) = z (ix3 b s ⟨1280 + (j.val * 128 + d.val), by omega⟩) := by
  pointwise [vCols]

theorem vOnes_at (b : Fin 32) (s : Fin 2048) (j : Fin 2) (d : Fin 128) : (vOnes (ix4 b s j d) : EReal) = 1 := by
  pointwise [vOnes]

theorem vHeads_at (u w : FVec Ideal S32x2048x2x128 .f32) (b : Fin 32) (s : Fin 2048) (j : Fin 2) (d : Fin 256) :
    (vHeads u w (ix4 b s j d) : EReal) = if h : d.val < 128 then u (ix4 b s j ⟨d.val, h⟩) else w (ix4 b s j ⟨d.val - 128, by omega⟩) := by
  pointwise [vHeads]

theorem gCols_at (z : FVec Ideal S32x2048x2560 .f32) (b : Fin 32) (s : Fin 2048) (n : Fin 1024) :
    (gCols z (ix3 b s n) : EReal) = z (ix3 b s ⟨1536 + n.val, by omega⟩) := by
  pointwise [gCols]

variable (z : FVec Ideal S32x2048x2560 .f32) (b : Fin 32) (s : Fin 2048) (R : Fin 65536) (hR : R.val = b.val * 2048 + s.val)
include hR

theorem gRes_at (n : Fin 1024) : (gRes z (ix2 R n) : EReal) = z (ix3 b s ⟨1536 + n.val, by omega⟩) := by
  unfold gRes
  exact (trunc_row _ _).trans ((rows_at _ _ b s R n hR).trans (gCols_at z b s n))

theorem vRes_at (j : Fin 2) (d : Fin 256) (n : Fin 512) (hn : n.val = j.val * 256 + d.val) :
    (vRes z (ix2 R n) : EReal) = if h : d.val < 128 then z (ix3 b s ⟨1280 + (j.val * 128 + d.val), by omega⟩) else 1 := by
  unfold vRes
  refine (trunc_row _ _).trans ((merge_at _ _ b s j d R n rfl hR hn).trans ((vHeads_at _ _ b s j d).trans ?_))
  by_cases h : d.val < 128
  · rw [dif_pos h, dif_pos h]
    exact vCols_at z b s j ⟨d.val, h⟩
  · rw [dif_neg h, dif_neg h]
    exact vOnes_at b s j _

end Cert.MidReferenceIdeal.Proj

end
-- ==== Proof.MidRun.lean ====
/-
  The run of the reference's mid-block: its five results, of its arguments.
-/
module

public import proofs.«01_k».proof.Proof.Gen.MidReferenceIdeal.Run
public import proofs.«01_k».proof.Proof.MidRes
public import proofs.«01_k».proof.Proof.MidResCols

@[expose] public section

set_option maxRecDepth 16384

noncomputable section

open Idealize.ShloMosaic Idealize.ShloMosaic.TcCoe Idealize.SL.Sem

namespace Cert.MidReferenceIdeal.Proj

open Cert.MidReferenceIdeal Cert.MidReferenceIdeal.Gen

open Cert.MidReferenceIdeal.Value StableHlo

variable (V0 : Valuation τ sig (Elt Ideal))

theorem v6_eq : (res_main_v6 V0 : FVec Ideal S32x2048x1024 .f32) = xRef (V0 (Proc.devRef .tc main_arg0)) (V0 (Proc.devRef .tc main_arg1)) (V0 (Proc.devRef .tc main_arg2)) (V0 (Proc.devRef .tc main_arg3)) (V0 (Proc.devRef .tc main_arg4)) := rfl
theorem v30_eq : (res_main_v30 V0 : FVec Ideal S32x2048x2560 .f32) = zRef (V0 (Proc.devRef .tc main_arg6)) (hRef (V0 (Proc.devRef .tc main_arg3)) (V0 (Proc.devRef .tc main_arg5)) (res_main_v6 V0)) := rfl
theorem v63_eq : (res_main_v63 V0 : FVec Ideal S32x2048x8x128 .f32) = qIn (res_main_v30 V0) := rfl
theorem v81_eq : (res_main_v81 V0 : FVec Ideal S32x2048x8x64x2 .f32) = qNorm (res_main_v63 V0) (V0 (Proc.devRef .tc main_arg7)) := rfl
theorem v83_eq : (res_main_v83 V0 : FVec Ideal S32x2048x8x64 .f32) = qFst (res_main_v81 V0) := rfl
theorem v85_eq : (res_main_v85 V0 : FVec Ideal S32x2048x8x64 .f32) = qSnd (res_main_v81 V0) := rfl
theorem v104_eq : (res_main_v104 V0 : FVec Ideal S32x2048x2x128 .f32) = kIn (res_main_v30 V0) := rfl
theorem v122_eq : (res_main_v122 V0 : FVec Ideal S32x2048x2x64x2 .f32) = kNorm (res_main_v104 V0) (V0 (Proc.devRef .tc main_arg8)) := rfl
theorem v124_eq : (res_main_v124 V0 : FVec Ideal S32x2048x2x64 .f32) = kFst (res_main_v122 V0) := rfl
theorem v126_eq : (res_main_v126 V0 : FVec Ideal S32x2048x2x64 .f32) = kSnd (res_main_v122 V0) := rfl
theorem v62_eq : (res_main_v62 V0 : FVec Ideal S2048x64 .f32) = angR := rfl
theorem v78_eq : (res_main_v78 V0 : FVec Ideal S2048x1x64 .f32) = coR := rfl
theorem v80_eq : (res_main_v80 V0 : FVec Ideal S2048x1x64 .f32) = siR := rfl
theorem v119_eq : (res_main_v119 V0 : FVec Ideal S2048x1x64 .f32) = coR := rfl
theorem v121_eq : (res_main_v121 V0 : FVec Ideal S2048x1x64 .f32) = siR := rfl

/-- The reference's five results, of its arguments. -/
def x5 (a0 : FVec Ideal S32x2048x1024 .f32) (a1 a2 : FVec Ideal S32x2048x512 .f32) (a3 : FVec Ideal S2x40x1x3072 .f32) (a4 : FVec Ideal S1024x1024 .f32) : FVec Ideal S65536x1024 .f32 :=
  shapeCast S65536x1024 (xRef a0 a1 a2 a3 a4) shapeCasts_S32x2048x1024_S65536x1024
def z5 (a0 : FVec Ideal S32x2048x1024 .f32) (a1 a2 : FVec Ideal S32x2048x512 .f32) (a3 : FVec Ideal S2x40x1x3072 .f32) (a4 : FVec Ideal S1024x1024 .f32) (a5 : FVec Ideal S1024 .f32) (a6 : FVec Ideal S1024x2560 .f32) : FVec Ideal S32x2048x2560 .f32 :=
  zRef a6 (hRef a3 a5 (xRef a0 a1 a2 a3 a4))

/-- What the reference's run leaves in its results. -/
theorem run5 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146) = x5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v156) = qRes (qHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)))
      ∧ r.2.mem ((c.tc : Thread nD τ).loc main_v160) = kRes (kHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8)))
      ∧ r.2.mem ((c.tc : Thread nD τ).loc main_v164) = vRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v166) = gRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.MidReferenceIdeal.Value.run m ρ)
  obtain ⟨h1, h2, h3, h4, h5, hr⟩ := h c
  have hz : (res_main_v30 (launchContents m c) : FVec Ideal S32x2048x2560 .f32) = z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
    rw [v30_eq, v6_eq]
    rfl
  refine ⟨h1.trans ?_, h2.trans ?_, h3.trans ?_, h4.trans ?_, h5.trans ?_, hr⟩
  · rw [v6_eq]
    rfl
  · rw [v83_eq, v85_eq, v81_eq, v63_eq, v78_eq, v80_eq, hz]
    rfl
  · rw [v124_eq, v126_eq, v122_eq, v104_eq, v119_eq, v121_eq, hz]
    rfl
  · rw [hz]
    rfl
  · rw [hz]
    rfl

end Cert.MidReferenceIdeal.Proj

end
-- ==== Proof.MidFin13.lean ====
/-
  The rows after the residual, over the mid-block's whole array.
-/
module

public import proofs.«01_k».proof.Proof.MidOut13
public import proofs.«01_k».proof.Proof.MidRows
public import proofs.«01_k».proof.Proof.MidRun

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open Cert.MidReferenceIdeal.Proj (x5 z5 qRes qHeads kRes kHeads vRes gRes qRes_at kRes_at vRes_at gRes_at)
open Cert.KernelIdeal.Attention (rows_at)

variable (m : (ℓ : Loc nD τ sig) → Buf (Elt Ideal) ℓ) (c : Dev nD)

theorem final13 : ((dats m 0 c).arrAt 13 cfg0.N : FVec Ideal S65536x1024 .f32) = x5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 13 _ (by decide +kernel) fun t _ y => ?_
  blk_simp
  rw [after0_13, outsAt0]
  idx_vars y
  have ht := lt_N t
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c (grid0.coords t) _ _ _ _ _ _ _ _ _ _ _ _ _ _ _ _ _ _ _ _ _ _ _ _ _ _ _ _ _ _ _ _ _ _ _ _ (ix2 y0 y1)).trans (Eq.trans ?_ (congrArg (x5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (emb13 t y0 y1).symm))
  exact (xB_eq m c t y0 y1).trans (rows_at _ _ (bt t) (st t y0) _ y1 (row_bs t y0)).symm

end Cert.MidIdeal.Proj

end
-- ==== Proof.MidOut14.lean ====
/-
  A point's block of the queries, at an index, from its pieces.
-/
module

public import proofs.«01_k».proof.Proof.MidHeads
public import proofs.«01_k».proof.Proof.MidSpell
public import proofs.«01_k».proof.Proof.Gen.MidIdeal.Value
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

attribute [local irreducible] qLo qHi headLo headHi colsLo colsHi cols onesG hG xG headB zB

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

theorem out14_at (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x1x1x3072 .f32) (harg5 : arg5.IsWhole) (arg6 : Memref sig .tc .vmem S1x1x1x3072 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x256 .bf16) (harg17 : arg17.IsWhole) (arg18 : Memref sig .tc .vmem S512x512 .bf16) (harg18 : arg18.IsWhole) (arg19 : Memref sig .tc .vmem S512x1024 .bf16) (harg19 : arg19.IsWhole) (y : S512x1024.Idx) :
    (out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xx cy ry gm nm wa wb gg wi qg kg cs sn y : EReal) = headB xx cy ry gm nm wa wb gg wi cs sn qg (y 0) ⟨(y 1).val / 128, by have := (y 1).isLt; simp at this; omega⟩ ⟨(y 1).val % 128, by omega⟩ * qs := by
  frame_out
  canon_tiles y
  all_goals
    simp only [q0_eq, q1_eq, q2_eq, q3_eq, q4_eq, q5_eq, q6_eq, q7_eq, q8_eq, q9_eq, q10_eq, q11_eq, q12_eq, q13_eq, q14_eq, q15_eq, h0_eq, h1_eq]
    idx_vars y
    first
    | exact qLo_ld xx cy ry gm nm wa wb gg wi cs sn _ y0 _ (hG_ld xx cy ry gm nm wa wb gg _ _ _ _ _ _ _ y0 _ (by omega)) _ _ qg _ _ (by omega) y1 _ _ (by first | omega | (simp; omega)) (by first | omega | (simp; omega))
    | exact qHi_ld xx cy ry gm nm wa wb gg wi cs sn _ y0 _ (hG_ld xx cy ry gm nm wa wb gg _ _ _ _ _ _ _ y0 _ (by omega)) _ _ qg _ _ (by omega) y1 _ _ (by first | omega | (simp; omega)) (by first | omega | (simp; omega))

end Cert.MidIdeal.Proj

end
-- ==== Proof.MidFin14.lean ====
/-
  The queries, over the mid-block's whole array.
-/
module

public import proofs.«01_k».proof.Proof.MidOut14
public import proofs.«01_k».proof.Proof.MidRows
public import proofs.«01_k».proof.Proof.MidRun

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open Cert.MidReferenceIdeal.Proj (x5 z5 qRes qHeads kRes kHeads vRes gRes qRes_at kRes_at vRes_at gRes_at)
open Cert.KernelIdeal.Attention (rows_at)

variable (m : (ℓ : Loc nD τ sig) → Buf (Elt Ideal) ℓ) (c : Dev nD)

theorem final14 : ((dats m 0 c).arrAt 14 cfg0.N : FVec Ideal S65536x1024 .bf16) = qRes (qHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) := by
  refine (dats m 0 c).arrAt_eq_of_covers 14 _ (by decide +kernel) fun t _ y => ?_
  blk_simp
  rw [after0_14, outsAt0]
  idx_vars y
  have ht := lt_N t
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c (grid0.coords t) _ _ _ _ _ _ _ _ _ _ _ _ _ _ _ _ _ _ _ _ _ _ _ _ _ _ _ _ _ _ _ _ _ _ _ _ (ix2 y0 y1)).trans (Eq.trans ?_ (congrArg (qRes (qHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)))) (emb14 t y0 y1).symm))
  refine Eq.trans ?_ (qRes_at (zV m c) (m ((c.tc : Thread nD τ).loc main_arg7)) (bt t) (st t y0) _ (row_bs t y0) ⟨y1.val / 128, by omega⟩ ⟨y1.val % 128, by omega⟩ y1 (by show y1.val = y1.val / 128 * 128 + y1.val % 128; omega)).symm
  refine (scaled_eq _).trans (congrArg Cert.MidReferenceIdeal.Proj.scaled ?_)
  refine headB_eq m c t y0 (m ((c.tc : Thread nD τ).loc main_arg7)) (iblk m c 9 t) (fun d => ?_) _ ⟨y1.val / 128, by omega⟩ rfl (fun d => ⟨y1.val / 128 * 128 + d.val, by omega⟩) (fun d => rfl) _
  rw [blk9, qg_eq]
  exact gainPrep_at _ d

end Cert.MidIdeal.Proj

end
-- ==== Proof.MidOut15.lean ====
/-
  A point's block of the keys, at an index, from its pieces.
-/
module

public import proofs.«01_k».proof.Proof.MidHeads
public import proofs.«01_k».proof.Proof.MidSpell
public import proofs.«01_k».proof.Proof.Gen.MidIdeal.Value
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

attribute [local irreducible] qLo qHi headLo headHi colsLo colsHi cols onesG hG xG headB zB

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

theorem out15_at (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x1x1x3072 .f32) (harg5 : arg5.IsWhole) (arg6 : Memref sig .tc .vmem S1x1x1x3072 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x256 .bf16) (harg17 : arg17.IsWhole) (arg18 : Memref sig .tc .vmem S512x512 .bf16) (harg18 : arg18.IsWhole) (arg19 : Memref sig .tc .vmem S512x1024 .bf16) (harg19 : arg19.IsWhole) (y : S512x256.Idx) :
    (out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xx cy ry gm nm wa wb gg wi qg kg cs sn y : EReal) = headB xx cy ry gm nm wa wb gg wi cs sn kg (y 0) ⟨8 + (y 1).val / 128, by have := (y 1).isLt; simp at this; omega⟩ ⟨(y 1).val % 128, by omega⟩ := by
  frame_out
  canon_tiles y
  all_goals
    simp only [k0_eq, k1_eq, k2_eq, k3_eq, h0_eq, h1_eq]
    idx_vars y
    first
    | exact headLo_ld xx cy ry gm nm wa wb gg wi cs sn _ y0 _ (hG_ld xx cy ry gm nm wa wb gg _ _ _ _ _ _ _ y0 _ (by omega)) _ _ kg _ _ (by omega) y1 _ _ (by first | omega | (simp; omega)) (by first | omega | (simp; omega))
    | exact headHi_ld xx cy ry gm nm wa wb gg wi cs sn _ y0 _ (hG_ld xx cy ry gm nm wa wb gg _ _ _ _ _ _ _ y0 _ (by omega)) _ _ kg _ _ (by omega) y1 _ _ (by first | omega | (simp; omega)) (by first | omega | (simp; omega))

end Cert.MidIdeal.Proj

end
-- ==== Proof.MidFin15.lean ====
/-
  The keys, over the mid-block's whole array.
-/
module

public import proofs.«01_k».proof.Proof.MidOut15
public import proofs.«01_k».proof.Proof.MidRows
public import proofs.«01_k».proof.Proof.MidRun

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open Cert.MidReferenceIdeal.Proj (x5 z5 qRes qHeads kRes kHeads vRes gRes qRes_at kRes_at vRes_at gRes_at)
open Cert.KernelIdeal.Attention (rows_at)

variable (m : (ℓ : Loc nD τ sig) → Buf (Elt Ideal) ℓ) (c : Dev nD)

theorem final15 : ((dats m 0 c).arrAt 15 cfg0.N : FVec Ideal S65536x256 .bf16) = kRes (kHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8))) := by
  refine (dats m 0 c).arrAt_eq_of_covers 15 _ (by decide +kernel) fun t _ y => ?_
  blk_simp
  rw [after0_15, outsAt0]
  idx_vars y
  have ht := lt_N t
  refine (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c (grid0.coords t) _ _ _ _ _ _ _ _ _ _ _ _ _ _ _ _ _ _ _ _ _ _ _ _ _ _ _ _ _ _ _ _ _ _ _ _ (ix2 y0 y1)).trans (Eq.trans ?_ (congrArg (kRes (kHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8)))) (emb15 t y0 y1).symm))
  refine Eq.trans ?_ (kRes_at (zV m c) (m ((c.tc : Thread nD τ).loc main_arg8)) (bt t) (st t y0) _ (row_bs t y0) ⟨y1.val / 128, by omega⟩ ⟨y1.val % 128, by omega⟩ y1 (by show y1.val = y1.val / 128 * 128 + y1.val % 128; omega)).symm
  refine headB_eq m c t y0 (m ((c.tc : Thread nD τ).loc main_arg8)) (iblk m c 10 t) (fun d => ?_) _ ⟨8 + y1.val / 128, by omega⟩ rfl (fun d => ⟨1024 + (y1.val / 128 * 128 + d.val), by omega⟩)
    (fun d => by show 1024 + (y1.val / 128 * 128 + d.val) = (8 + y1.val / 128) * 128 + d.val; omega) _
  rw [blk10, kg_eq]
  exact gainPrep_at _ d

end Cert.MidIdeal.Proj

end
-- ==== Proof.MidOut16.lean ====
/-
  A point's block of the values, each head beside ones, at an index, from its pieces.
-/
module

public import proofs.«01_k».proof.Proof.MidHeads
public import proofs.«01_k».proof.Proof.MidSpell
public import proofs.«01_k».proof.Proof.Gen.MidIdeal.Value
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

attribute [local irreducible] qLo qHi headLo headHi colsLo colsHi cols onesG hG xG headB zB

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

theorem out16_at (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x1x1x3072 .f32) (harg5 : arg5.IsWhole) (arg6 : Memref sig .tc .vmem S1x1x1x3072 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x256 .bf16) (harg17 : arg17.IsWhole) (arg18 : Memref sig .tc .vmem S512x512 .bf16) (harg18 : arg18.IsWhole) (arg19 : Memref sig .tc .vmem S512x1024 .bf16) (harg19 : arg19.IsWhole) (y : S512x512.Idx) :
    (out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xx cy ry gm nm wa wb gg wi qg kg cs sn y : EReal) = (if (y 1).val / 128 % 2 = 1 then 1 else zB xx cy ry gm nm wa wb gg wi (y 0) ⟨1280 + 128 * ((y 1).val / 256) + (y 1).val % 128, by have := (y 1).isLt; simp at this; omega⟩) := by
  frame_out
  canon_tiles y
  all_goals
    simp only [v0_eq, v1_eq, v2_eq, v3_eq, one0_eq, one1_eq, one2_eq, one3_eq, h0_eq, h1_eq]
    idx_vars y
    first
    | rw [if_pos (by omega)]; exact onesG_at y0 y1
    | rw [if_neg (by omega)]; exact colsLo_ld xx cy ry gm nm wa wb gg wi _ y0 _ (hG_ld xx cy ry gm nm wa wb gg _ _ _ _ _ _ _ y0 _ (by omega)) _ _ y1 _ (by first | omega | (simp; omega))
    | rw [if_neg (by omega)]; exact colsHi_ld xx cy ry gm nm wa wb gg wi _ y0 _ (hG_ld xx cy ry gm nm wa wb gg _ _ _ _ _ _ _ y0 _ (by omega)) _ _ y1 _ (by first | omega | (simp; omega))

end Cert.MidIdeal.Proj

end
-- ==== Proof.MidFin16.lean ====
/-
  The values and the ones beside them, over the mid-block's whole array.
-/
module

public import proofs.«01_k».proof.Proof.MidOut16
public import proofs.«01_k».proof.Proof.MidRows
public import proofs.«01_k».proof.Proof.MidRun

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open Cert.MidReferenceIdeal.Proj (x5 z5 qRes qHeads kRes kHeads vRes gRes qRes_at kRes_at vRes_at gRes_at)
open Cert.KernelIdeal.Attention (rows_at)

variable (m : (ℓ : Loc nD τ sig) → Buf (Elt Ideal) ℓ) (c : Dev nD)

theorem final16 : ((dats m 0 c).arrAt 16 cfg0.N : FVec Ideal S65536x512 .bf16) = vRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 16 _ (by decide +kernel) fun t _ y => ?_
  blk_simp
  rw [after0_16, outsAt0]
  idx_vars y
  have ht := lt_N t
  refine (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c (grid0.coords t) _ _ _ _ _ _ _ _ _ _ _ _ _ _ _ _ _ _ _ _ _ _ _ _ _ _ _ _ _ _ _ _ _ _ _ _ (ix2 y0 y1)).trans (Eq.trans ?_ (congrArg (vRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) (emb16 t y0 y1).symm))
  refine Eq.trans ?_ (vRes_at (zV m c) (bt t) (st t y0) _ (row_bs t y0) ⟨y1.val / 256, by omega⟩ ⟨y1.val % 256, by omega⟩ y1 (by show y1.val = y1.val / 256 * 256 + y1.val % 256; omega)).symm
  show (if y1.val / 128 % 2 = 1 then (1 : EReal) else _) = if h : y1.val % 256 < 128 then _ else 1
  by_cases h : y1.val % 256 < 128
  · rw [if_neg (by omega), dif_pos h]
    refine (zB_eq m c t y0 _).trans ?_
    rw [col_rest _ (by show 1280 ≤ 1280 + 128 * (y1.val / 256) + y1.val % 128; omega)]
    refine congrArg (fun k => zV m c (ix3 (bt t) (st t y0) k)) (Fin.ext ?_)
    show 1280 + 128 * (y1.val / 256) + y1.val % 128 = 1280 + (y1.val / 256 * 128 + y1.val % 256)
    omega
  · rw [if_pos (by omega), dif_neg h]

end Cert.MidIdeal.Proj

end
-- ==== Proof.MidOut17.lean ====
/-
  A point's block of the gates, at an index, from its pieces.
-/
module

public import proofs.«01_k».proof.Proof.MidHeads
public import proofs.«01_k».proof.Proof.MidSpell
public import proofs.«01_k».proof.Proof.Gen.MidIdeal.Value
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

attribute [local irreducible] qLo qHi headLo headHi colsLo colsHi cols onesG hG xG headB zB

variable (xx : Vec Ideal S512x1024 .f32) (cy : Vec Ideal S512x512 .bf16) (ry : Vec Ideal S512x512 .bf16) (gm : Vec Ideal S1x1x1x3072 .f32) (nm : Vec Ideal S1x1x1x3072 .f32) (wa : Vec Ideal S512x1024 .bf16) (wb : Vec Ideal S512x1024 .bf16) (gg : Vec Ideal S1x1024 .f32) (wi : Vec Ideal S1024x2560 .bf16) (qg : Vec Ideal S1x128 .f32) (kg : Vec Ideal S1x128 .f32) (cs : Vec Ideal S512x128 .f32) (sn : Vec Ideal S512x128 .f32)

theorem out17_at (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1x1x1x3072 .f32) (harg5 : arg5.IsWhole) (arg6 : Memref sig .tc .vmem S1x1x1x3072 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x256 .bf16) (harg17 : arg17.IsWhole) (arg18 : Memref sig .tc .vmem S512x512 .bf16) (harg18 : arg18.IsWhole) (arg19 : Memref sig .tc .vmem S512x1024 .bf16) (harg19 : arg19.IsWhole) (y : S512x1024.Idx) :
    (out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xx cy ry gm nm wa wb gg wi qg kg cs sn y : EReal) = zB xx cy ry gm nm wa wb gg wi (y 0) ⟨1536 + (y 1).val, by have := (y 1).isLt; simp at this; omega⟩ := by
  frame_out
  canon_tiles y
  all_goals
    simp only [g0_eq, g1_eq, g2_eq, g3_eq, g4_eq, g5_eq, g6_eq, g7_eq, h0_eq, h1_eq]
    idx_vars y
    first
    | exact cols_ld xx cy ry gm nm wa wb gg wi _ y0 _ (hG_ld xx cy ry gm nm wa wb gg _ _ _ _ _ _ _ y0 _ (by omega)) _ _ y1 _ (by first | omega | (simp; omega))

end Cert.MidIdeal.Proj

end
-- ==== Proof.MidFin17.lean ====
/-
  The gate, over the mid-block's whole array.
-/
module

public import proofs.«01_k».proof.Proof.MidOut17
public import proofs.«01_k».proof.Proof.MidRows
public import proofs.«01_k».proof.Proof.MidRun

@[expose] public section

set_option maxRecDepth 16384

noncomputable section

open Idealize.ShloMosaic Idealize.ShloMosaic.TcCoe Idealize.SL.Sem

namespace Cert.MidIdeal.Proj

open Cert.MidIdeal Cert.MidIdeal.Gen Cert.MidRow

open Cert.MidReferenceIdeal.Proj (x5 z5 qRes qHeads kRes kHeads vRes gRes qRes_at kRes_at vRes_at gRes_at)
open Cert.KernelIdeal.Attention (rows_at)

variable (m : (ℓ : Loc nD τ sig) → Buf (Elt Ideal) ℓ) (c : Dev nD)

theorem final17 : ((dats m 0 c).arrAt 17 cfg0.N : FVec Ideal S65536x1024 .bf16) = gRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 17 _ (by decide +kernel) fun t _ y => ?_
  blk_simp
  rw [after0_17, outsAt0]
  idx_vars y
  have ht := lt_N t
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c (grid0.coords t) _ _ _ _ _ _ _ _ _ _ _ _ _ _ _ _ _ _ _ _ _ _ _ _ _ _ _ _ _ _ _ _ _ _ _ _ (ix2 y0 y1)).trans (Eq.trans ?_ (congrArg (gRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) (emb17 t y0 y1).symm))
  refine Eq.trans ?_ (gRes_at (zV m c) (bt t) (st t y0) _ (row_bs t y0) y1).symm
  refine (zB_eq m c t y0 _).trans ?_
  rw [col_rest _ (by show 1280 ≤ 1536 + y1.val; omega)]
  rfl

end Cert.MidIdeal.Proj

end
-- ==== Proof.Mid.lean ====
/-
  The mid-block: the kernel and the reference end with equal results.
-/
module

public import proofs.«01_k».proof.Defs
public import proofs.«01_k».proof.Proof.MidFin13
public import proofs.«01_k».proof.Proof.MidFin14
public import proofs.«01_k».proof.Proof.MidFin15
public import proofs.«01_k».proof.Proof.MidFin16
public import proofs.«01_k».proof.Proof.MidFin17

@[expose] public section

set_option maxRecDepth 16384

noncomputable section

open Idealize.ShloMosaic Idealize.ShloMosaic.TcCoe Idealize.SL.Sem

namespace Cert.MidIdeal.Proj

open Cert.MidIdeal Cert.MidIdeal.Gen

open Cert.MidReferenceIdeal.Proj (x5 z5 qRes qHeads kRes kHeads vRes gRes run5)

/-- Equal arguments give equal values. -/
theorem app2 {A0 A1 R : Type} (f : A0 → A1 → R) {x0 y0 : A0} {x1 y1 : A1} (h0 : x0 = y0) (h1 : x1 = y1) :
    f x0 x1 = f y0 y1 := by
  subst h0 h1
  rfl
theorem app5 {A0 A1 A2 A3 A4 R : Type} (f : A0 → A1 → A2 → A3 → A4 → R) {x0 y0 : A0} {x1 y1 : A1} {x2 y2 : A2} {x3 y3 : A3} {x4 y4 : A4} (h0 : x0 = y0) (h1 : x1 = y1) (h2 : x2 = y2) (h3 : x3 = y3) (h4 : x4 = y4) :
    f x0 x1 x2 x3 x4 = f y0 y1 y2 y3 y4 := by
  subst h0 h1 h2 h3 h4
  rfl
theorem app7 {A0 A1 A2 A3 A4 A5 A6 R : Type} (f : A0 → A1 → A2 → A3 → A4 → A5 → A6 → R) {x0 y0 : A0} {x1 y1 : A1} {x2 y2 : A2} {x3 y3 : A3} {x4 y4 : A4} {x5 y5 : A5} {x6 y6 : A6} (h0 : x0 = y0) (h1 : x1 = y1) (h2 : x2 = y2) (h3 : x3 = y3) (h4 : x4 = y4) (h5 : x5 = y5) (h6 : x6 = y6) :
    f x0 x1 x2 x3 x4 x5 x6 = f y0 y1 y2 y3 y4 y5 y6 := by
  subst h0 h1 h2 h3 h4 h5 h6
  rfl

/-- The kernel and the reference end with equal results from equal arguments. -/
theorem algebraic : Cert.algebraic_MidIdeal_MidReferenceIdeal := by
  intro m ρ m' ρ' _ hagree
  refine ⟨fun c => x5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => qRes (qHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))), fun c => kRes (kHeads (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8))), fun c => vRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))), fun c => gRes (z5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))), ?_, ?_⟩
  · refine (θ_run Cert.MidIdeal.defs _ _).mono (fun _ h c => ?_) (Cert.MidIdeal.Value.run_blocks m ρ)
    obtain ⟨h1, h2, h3, h4, h5, hr⟩ := h c
    exact ⟨h1.trans (final13 m c), h2.trans (final14 m c), h3.trans (final15 m c), h4.trans (final16 m c), h5.trans (final17 m c), hr⟩
  · refine (θ_run Cert.MidReferenceIdeal.defs _ _).mono (fun _ h c => ?_) (run5 m' ρ')
    obtain ⟨e0, e1, e2, e3, e4, e5, e6, e7, e8⟩ := hagree c
    obtain ⟨h1, h2, h3, h4, h5, hr⟩ := h c
    have hz := app7 z5 e0 e1 e2 e3 e4 e5 e6
    exact ⟨h1.trans (app5 x5 e0 e1 e2 e3 e4), h2.trans (app2 (fun z w => qRes (qHeads z w)) hz e7), h3.trans (app2 (fun z w => kRes (kHeads z w)) hz e8), h4.trans (congrArg vRes hz), h5.trans (congrArg gRes hz), hr⟩

/-- The named constant is what the rounded one in the kernel stands for. -/
theorem preserves : Cert.preserves_Mid_MidIdeal :=
  IdealRules.named_const.statement Cert.MidIdeal.κ "q_scale" .f32 0x3E0293EE#32 ((((Real.sqrt 128) * (Real.log 2))⁻¹ : ℝ) : EReal) rfl

end Cert.MidIdeal.Proj

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_qk
public import proofs.«01_k».proof.Proof.Attention
public import proofs.«01_k».proof.Proof.Gen.Retin.Frame
public import proofs.«01_k».proof.Proof.Retin
public import proofs.«01_k».proof.Proof.Gen.Retinc.Frame
public import proofs.«01_k».proof.Proof.Retinc
public import proofs.«01_k».proof.Proof.Gen.Mid.Frame
public import proofs.«01_k».proof.Proof.Gen.MidIdeal.Value
public import proofs.«01_k».proof.Proof.Gen.MidReferenceIdeal.Run
public import proofs.«01_k».proof.Proof.Mid
public import Idealize.ShloMosaic.Lib.Quiescent

@[expose] public section

noncomputable section

namespace Cert.Proof

open Idealize.ShloMosaic Idealize.SL.Sem

/-- The reference is a program of host operations: its run keeps the arguments, and it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri3 : Cert.quiescent_RetinReferenceIdeal := fun m ρ _ =>
  (θ_run Cert.RetinReferenceIdeal.defs _ _).mono (fun r h => ⟨fun c => (h c).2, sem_eq_zero_of_no_sems (by decide) r.2⟩)
    (Cert.RetinReferenceIdeal.Value.run (F := Ideal) m ρ)

theorem frame_ri4 : Cert.quiescent_RetincReferenceIdeal := fun m ρ _ =>
  (θ_run Cert.RetincReferenceIdeal.defs _ _).mono (fun r h => ⟨fun c => (h c).2, sem_eq_zero_of_no_sems (by decide) r.2⟩)
    (Cert.RetincReferenceIdeal.Value.run (F := Ideal) m ρ)

theorem frame_ri2 : Cert.quiescent_MidReferenceIdeal := fun m ρ _ =>
  (θ_run Cert.MidReferenceIdeal.defs _ _).mono (fun r h => ⟨fun c => (h c).2.2.2.2.2, sem_eq_zero_of_no_sems (by decide) r.2⟩)
    (Cert.MidReferenceIdeal.Value.run (F := Ideal) m ρ)

theorem claim : Cert.Claim :=
  ⟨Cert.Kernel.Gen.facts, Cert.KernelIdeal.Gen.facts, Cert.ReferenceIdeal.Gen.facts,
    Cert.Mid.Gen.facts, Cert.MidIdeal.Gen.facts, Cert.MidReferenceIdeal.Gen.facts,
    Cert.Retin.Gen.facts, Cert.RetinIdeal.Gen.facts, Cert.RetinReferenceIdeal.Gen.facts,
    Cert.Retinc.Gen.facts, Cert.RetincIdeal.Gen.facts, Cert.RetincReferenceIdeal.Gen.facts, Cert.Pre_finite_qk.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    fun m ρ _ => Cert.Mid.Gen.frame m ρ, fun m ρ _ => Cert.MidIdeal.Gen.frame m ρ, frame_ri2,
    fun m ρ _ => Cert.Retin.Gen.frame m ρ, fun m ρ _ => Cert.RetinIdeal.Gen.frame m ρ, frame_ri3,
    fun m ρ _ => Cert.Retinc.Gen.frame m ρ, fun m ρ _ => Cert.RetincIdeal.Gen.frame m ρ, frame_ri4,
    trivial, Cert.KernelIdeal.Attention.algebraic,
    Cert.MidIdeal.Proj.preserves, Cert.MidIdeal.Proj.algebraic, trivial, Cert.RetinIdeal.Proj.algebraic,
    trivial, Cert.RetincIdeal.Proj.algebraic⟩

end Cert.Proof

end
